-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 256]⟩ ⟨2, ![4096, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x256 : Shape := ⟨2, ![4096, 256]⟩
abbrev S2x256x4096 : Shape := ⟨3, ![2, 256, 4096]⟩
abbrev S6x256x4096 : Shape := ⟨3, ![6, 256, 4096]⟩
abbrev S4x256x4096 : Shape := ⟨3, ![4, 256, 4096]⟩
abbrev S6 : Shape := ⟨1, ![6]⟩
abbrev S4 : Shape := ⟨1, ![4]⟩
abbrev S_ : Shape := ⟨0, ![]⟩
abbrev S256x4096 : Shape := ⟨2, ![256, 4096]⟩
abbrev S1x256x4096 : Shape := ⟨3, ![1, 256, 4096]⟩
abbrev S1 : Shape := ⟨1, ![1]⟩
abbrev S256x256 : Shape := ⟨2, ![256, 256]⟩

abbrev nBuf : Space → Nat
  | .hbm => 3
  | .vmem => 8
  | .smem => 0
  | _ => 0

abbrev bufTy : (tb : Table) → Fin (tcTables nBuf tb) → BufTy
  | .hbm, ⟨0, _⟩ => ⟨S512x4096, .bf16⟩
  | .hbm, ⟨1, _⟩ => ⟨S4096x256, .bf16⟩
  | .hbm, ⟨2, _⟩ => ⟨S4096x256, .f32⟩
  | .local _ .vmem, ⟨0, _⟩ => ⟨S512x4096, .bf16⟩
  | .local _ .vmem, ⟨1, _⟩ => ⟨S4096x256, .bf16⟩
  | .local _ .vmem, ⟨2, _⟩ => ⟨S4096x256, .f32⟩
  | .local _ .vmem, ⟨3, _⟩ => ⟨S2x256x4096, .bf16⟩
  | .local _ .vmem, ⟨4, _⟩ => ⟨S4096x256, .bf16⟩
  | .local _ .vmem, ⟨5, _⟩ => ⟨S6x256x4096, .bf16⟩
  | .local _ .vmem, ⟨6, _⟩ => ⟨S6x256x4096, .bf16⟩
  | .local _ .vmem, ⟨7, _⟩ => ⟨S4x256x4096, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_14 : BitVec 32 := 1#32
  let v28 : BitVec 32 := Scalar.muli v17 c1_i32_14
  let v29 : BitVec 32 := Scalar.addi c0_i32_15 v28
  v29.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_17 : BitVec 32 := 1#32
  let v30 : BitVec 32 := Scalar.muli v11 c1_i32_17
  let v31 : BitVec 32 := Scalar.addi c0_i32_18 v30
  v31.toNat
def k0_dev3 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_20 : BitVec 32 := 1#32
  let v32 : BitVec 32 := Scalar.muli v26 c1_i32_20
  let v33 : BitVec 32 := Scalar.addi c0_i32_21 v32
  v33.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let v39 : BitVec 32 := Scalar.extui v19
  let c0_i32_27 : BitVec 32 := 0#32
  let v40 : BitVec 1 := Scalar.cmpi .ne v39 c0_i32_27
  v40

def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_34 : BitVec 32 := 1#32
  let v44 : BitVec 32 := Scalar.muli v11 c1_i32_34
  let v45 : BitVec 32 := Scalar.addi c0_i32_35 v44
  v45.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_44 : BitVec 32 := 1#32
  let v54 : BitVec 32 := Scalar.muli v17 c1_i32_44
  let v55 : BitVec 32 := Scalar.addi c0_i32_45 v54
  v55.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_54 : BitVec 32 := 1#32
  let v64 : BitVec 32 := Scalar.muli v26 c1_i32_54
  let v65 : BitVec 32 := Scalar.addi c0_i32_55 v64
  v65.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_67 : BitVec 32 := 1#32
  let v79 : BitVec 32 := Scalar.muli v11 c1_i32_67
  let v80 : BitVec 32 := Scalar.addi c0_i32_68 v79
  v80.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_77 : BitVec 32 := 1#32
  let v89 : BitVec 32 := Scalar.muli v17 c1_i32_77
  let v90 : BitVec 32 := Scalar.addi c0_i32_78 v89
  v90.toNat
def k0_dev9 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_87 : BitVec 32 := 1#32
  let v99 : BitVec 32 := Scalar.muli v26 c1_i32_87
  let v100 : BitVec 32 := Scalar.addi c0_i32_88 v99
  v100.toNat
def k0_off1 (d0 : Dev nD) (c0_i32_102 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v118 : BitVec 32 := Scalar.muli v2 c512_i32
  let v119 : BitVec 32 := Scalar.addi v118 c0_i32_102
  let v120 : Index := Scalar.indexCast v119
  let c0_103 : Index := 0#32
  ![v120.toNat, 0]
def k0_dev10 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_126 : BitVec 32 := 1#32
  let v138 : BitVec 32 := Scalar.muli v11 c1_i32_126
  let v139 : BitVec 32 := Scalar.addi c0_i32_127 v138
  v139.toNat
def k0_dev11 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_136 : BitVec 32 := 1#32
  let v148 : BitVec 32 := Scalar.muli v26 c1_i32_136
  let v149 : BitVec 32 := Scalar.addi c0_i32_137 v148
  v149.toNat
def k0_off2 (d0 : Dev nD) (c1_i32_142 : BitVec 32) (c0_i32_154 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v158 : BitVec 32 := Scalar.subi v5 c1_i32_142
  let c16_i32_143 : BitVec 32 := 16#32
  let v159 : BitVec 32 := Scalar.addi v158 c16_i32_143
  let c8_i32_144 : BitVec 32 := 8#32
  let v160 : BitVec 32 := Scalar.remsi v159 c8_i32_144
  let c4_i32_145 : BitVec 32 := 4#32
  let v161 : BitVec 1 := Scalar.cmpi .slt v160 c4_i32_145
  let c11_i32_146 : BitVec 32 := 11#32
  let v162 : BitVec 32 := Scalar.subi c11_i32_146 v160
  let v163 : BitVec 32 := Scalar.select v161 v160 v162
  let c512_i32_153 : BitVec 32 := 512#32
  let v168 : BitVec 32 := Scalar.muli v163 c512_i32_153
  let v169 : BitVec 32 := Scalar.addi v168 c0_i32_154
  let v170 : Index := Scalar.indexCast v169
  let c0_155 : Index := 0#32
  ![v170.toNat, 0]
def k0_dev12 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_170 : BitVec 32 := 1#32
  let v180 : BitVec 32 := Scalar.muli v17 c1_i32_170
  let v181 : BitVec 32 := Scalar.addi c0_i32_171 v180
  v181.toNat
def k0_off3 (d0 : Dev nD) (c1_i32_176 : BitVec 32) (c256_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v190 : BitVec 32 := Scalar.addi v5 c1_i32_176
  let c16_i32_177 : BitVec 32 := 16#32
  let v191 : BitVec 32 := Scalar.addi v190 c16_i32_177
  let c8_i32_178 : BitVec 32 := 8#32
  let v192 : BitVec 32 := Scalar.remsi v191 c8_i32_178
  let c4_i32_179 : BitVec 32 := 4#32
  let v193 : BitVec 1 := Scalar.cmpi .slt v192 c4_i32_179
  let c11_i32_180 : BitVec 32 := 11#32
  let v194 : BitVec 32 := Scalar.subi c11_i32_180 v192
  let v195 : BitVec 32 := Scalar.select v193 v192 v194
  let c512_i32_187 : BitVec 32 := 512#32
  let v200 : BitVec 32 := Scalar.muli v195 c512_i32_187
  let v201 : BitVec 32 := Scalar.addi v200 c256_i32_188
  let v202 : Index := Scalar.indexCast v201
  let c0_189 : Index := 0#32
  ![v202.toNat, 0]
def k0_off3_at (r : Fin 6) : BitVec 32 × BitVec 32 :=
  if r.val < 3 then
    if r.val < 1 then
      (1#32, 256#32)
    else
      if r.val < 2 then
        (1#32, 0#32)
      else
        (2#32, 256#32)
  else
    if r.val < 4 then
      (4#32, 0#32)
    else
      if r.val < 5 then
        (2#32, 0#32)
      else
        (4#32, 256#32)
def k0_off4 (d0 : Dev nD) (c0_i32_213 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32_200 : BitVec 32 := 3#32
  let c_m3_i32_201 : BitVec 32 := 4294967293#32
  let v212 : BitVec 32 := Scalar.select v19 c3_i32_200 c_m3_i32_201
  let v213 : BitVec 32 := Scalar.addi v5 v212
  let c16_i32_202 : BitVec 32 := 16#32
  let v214 : BitVec 32 := Scalar.addi v213 c16_i32_202
  let c8_i32_203 : BitVec 32 := 8#32
  let v215 : BitVec 32 := Scalar.remsi v214 c8_i32_203
  let c4_i32_204 : BitVec 32 := 4#32
  let v216 : BitVec 1 := Scalar.cmpi .slt v215 c4_i32_204
  let c11_i32_205 : BitVec 32 := 11#32
  let v217 : BitVec 32 := Scalar.subi c11_i32_205 v215
  let v218 : BitVec 32 := Scalar.select v216 v215 v217
  let c512_i32_212 : BitVec 32 := 512#32
  let v223 : BitVec 32 := Scalar.muli v218 c512_i32_212
  let v224 : BitVec 32 := Scalar.addi v223 c0_i32_213
  let v225 : Index := Scalar.indexCast v224
  let c0_214 : Index := 0#32
  ![v225.toNat, 0]
def k0_dev13 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_229 : BitVec 32 := 1#32
  let v235 : BitVec 32 := Scalar.muli v11 c1_i32_229
  let v236 : BitVec 32 := Scalar.addi c0_i32_230 v235
  v236.toNat
def k0_dev14 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_239 : BitVec 32 := 1#32
  let v245 : BitVec 32 := Scalar.muli v26 c1_i32_239
  let v246 : BitVec 32 := Scalar.addi c0_i32_240 v245
  v246.toNat
def k0_dev15 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_273 : BitVec 32 := 1#32
  let v277 : BitVec 32 := Scalar.muli v17 c1_i32_273
  let v278 : BitVec 32 := Scalar.addi c0_i32_274 v277
  v278.toNat
def k0_dev16 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_355 : BitVec 32 := 1#32
  let v354 : BitVec 32 := Scalar.muli v17 c1_i32_355
  let v355 : BitVec 32 := Scalar.addi c0_i32_356 v354
  v355.toNat
def k0_dev17 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_435 : BitVec 32 := 1#32
  let v430 : BitVec 32 := Scalar.muli v17 c1_i32_435
  let v431 : BitVec 32 := Scalar.addi c0_i32_436 v430
  v431.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let true_28 : BitVec 1 := 1#1
  let v41 : BitVec 1 := Scalar.xori v19 true_28
  let v42 : BitVec 32 := Scalar.extui v41
  let c0_i32_29 : BitVec 32 := 0#32
  let v43 : BitVec 1 := Scalar.cmpi .ne v42 c0_i32_29
  v43

def k0_dev18 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_34 : BitVec 32 := 1#32
  let v44 : BitVec 32 := Scalar.muli v11 c1_i32_34
  let v45 : BitVec 32 := Scalar.addi c0_i32_35 v44
  v45.toNat
def k0_dev19 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_44 : BitVec 32 := 1#32
  let v54 : BitVec 32 := Scalar.muli v17 c1_i32_44
  let v55 : BitVec 32 := Scalar.addi c0_i32_45 v54
  v55.toNat
def k0_dev20 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_54 : BitVec 32 := 1#32
  let v64 : BitVec 32 := Scalar.muli v26 c1_i32_54
  let v65 : BitVec 32 := Scalar.addi c0_i32_55 v64
  v65.toNat
def k0_dev21 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_67 : BitVec 32 := 1#32
  let v79 : BitVec 32 := Scalar.muli v11 c1_i32_67
  let v80 : BitVec 32 := Scalar.addi c0_i32_68 v79
  v80.toNat
def k0_dev22 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_77 : BitVec 32 := 1#32
  let v89 : BitVec 32 := Scalar.muli v17 c1_i32_77
  let v90 : BitVec 32 := Scalar.addi c0_i32_78 v89
  v90.toNat
def k0_dev23 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_87 : BitVec 32 := 1#32
  let v99 : BitVec 32 := Scalar.muli v26 c1_i32_87
  let v100 : BitVec 32 := Scalar.addi c0_i32_88 v99
  v100.toNat
def k0_off5 (d0 : Dev nD) (c0_i32_102 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v118 : BitVec 32 := Scalar.muli v2 c512_i32
  let v119 : BitVec 32 := Scalar.addi v118 c0_i32_102
  let v120 : Index := Scalar.indexCast v119
  let c0_103 : Index := 0#32
  ![v120.toNat, 0]
def k0_dev24 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_126 : BitVec 32 := 1#32
  let v138 : BitVec 32 := Scalar.muli v11 c1_i32_126
  let v139 : BitVec 32 := Scalar.addi c0_i32_127 v138
  v139.toNat
def k0_off6 (d0 : Dev nD) (c1_i32_132 : BitVec 32) (c0_i32_144 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v148 : BitVec 32 := Scalar.subi v5 c1_i32_132
  let c16_i32_133 : BitVec 32 := 16#32
  let v149 : BitVec 32 := Scalar.addi v148 c16_i32_133
  let c8_i32_134 : BitVec 32 := 8#32
  let v150 : BitVec 32 := Scalar.remsi v149 c8_i32_134
  let c4_i32_135 : BitVec 32 := 4#32
  let v151 : BitVec 1 := Scalar.cmpi .slt v150 c4_i32_135
  let c11_i32_136 : BitVec 32 := 11#32
  let v152 : BitVec 32 := Scalar.subi c11_i32_136 v150
  let v153 : BitVec 32 := Scalar.select v151 v150 v152
  let c512_i32_143 : BitVec 32 := 512#32
  let v158 : BitVec 32 := Scalar.muli v153 c512_i32_143
  let v159 : BitVec 32 := Scalar.addi v158 c0_i32_144
  let v160 : Index := Scalar.indexCast v159
  let c0_145 : Index := 0#32
  ![v160.toNat, 0]
def k0_dev25 (d0 : Dev nD) : Nat :=
  let c0_i32_161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_160 : BitVec 32 := 1#32
  let v170 : BitVec 32 := Scalar.muli v17 c1_i32_160
  let v171 : BitVec 32 := Scalar.addi c0_i32_161 v170
  v171.toNat
def k0_dev26 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_170 : BitVec 32 := 1#32
  let v180 : BitVec 32 := Scalar.muli v26 c1_i32_170
  let v181 : BitVec 32 := Scalar.addi c0_i32_171 v180
  v181.toNat
def k0_off7 (d0 : Dev nD) (c1_i32_176 : BitVec 32) (c256_i32_188 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v190 : BitVec 32 := Scalar.addi v5 c1_i32_176
  let c16_i32_177 : BitVec 32 := 16#32
  let v191 : BitVec 32 := Scalar.addi v190 c16_i32_177
  let c8_i32_178 : BitVec 32 := 8#32
  let v192 : BitVec 32 := Scalar.remsi v191 c8_i32_178
  let c4_i32_179 : BitVec 32 := 4#32
  let v193 : BitVec 1 := Scalar.cmpi .slt v192 c4_i32_179
  let c11_i32_180 : BitVec 32 := 11#32
  let v194 : BitVec 32 := Scalar.subi c11_i32_180 v192
  let v195 : BitVec 32 := Scalar.select v193 v192 v194
  let c512_i32_187 : BitVec 32 := 512#32
  let v200 : BitVec 32 := Scalar.muli v195 c512_i32_187
  let v201 : BitVec 32 := Scalar.addi v200 c256_i32_188
  let v202 : Index := Scalar.indexCast v201
  let c0_189 : Index := 0#32
  ![v202.toNat, 0]
def k0_off8 (d0 : Dev nD) (c0_i32_213 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32_200 : BitVec 32 := 3#32
  let c_m3_i32_201 : BitVec 32 := 4294967293#32
  let v212 : BitVec 32 := Scalar.select v19 c3_i32_200 c_m3_i32_201
  let v213 : BitVec 32 := Scalar.addi v5 v212
  let c16_i32_202 : BitVec 32 := 16#32
  let v214 : BitVec 32 := Scalar.addi v213 c16_i32_202
  let c8_i32_203 : BitVec 32 := 8#32
  let v215 : BitVec 32 := Scalar.remsi v214 c8_i32_203
  let c4_i32_204 : BitVec 32 := 4#32
  let v216 : BitVec 1 := Scalar.cmpi .slt v215 c4_i32_204
  let c11_i32_205 : BitVec 32 := 11#32
  let v217 : BitVec 32 := Scalar.subi c11_i32_205 v215
  let v218 : BitVec 32 := Scalar.select v216 v215 v217
  let c512_i32_212 : BitVec 32 := 512#32
  let v223 : BitVec 32 := Scalar.muli v218 c512_i32_212
  let v224 : BitVec 32 := Scalar.addi v223 c0_i32_213
  let v225 : Index := Scalar.indexCast v224
  let c0_214 : Index := 0#32
  ![v225.toNat, 0]
def k0_dev27 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_229 : BitVec 32 := 1#32
  let v235 : BitVec 32 := Scalar.muli v11 c1_i32_229
  let v236 : BitVec 32 := Scalar.addi c0_i32_230 v235
  v236.toNat
def k0_dev28 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_4 : BitVec 32 := 1#32
  let v12 : BitVec 32 := Scalar.subi v5 c1_i32_4
  let c16_i32_5 : BitVec 32 := 16#32
  let v13 : BitVec 32 := Scalar.addi v12 c16_i32_5
  let c8_i32_6 : BitVec 32 := 8#32
  let v14 : BitVec 32 := Scalar.remsi v13 c8_i32_6
  let c4_i32_7 : BitVec 32 := 4#32
  let v15 : BitVec 1 := Scalar.cmpi .slt v14 c4_i32_7
  let c11_i32_8 : BitVec 32 := 11#32
  let v16 : BitVec 32 := Scalar.subi c11_i32_8 v14
  let v17 : BitVec 32 := Scalar.select v15 v14 v16
  let c1_i32_263 : BitVec 32 := 1#32
  let v267 : BitVec 32 := Scalar.muli v17 c1_i32_263
  let v268 : BitVec 32 := Scalar.addi c0_i32_264 v267
  v268.toNat
def k0_dev29 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let v18 : BitVec 32 := Scalar.remsi v5 c2_i32
  let c0_i32 : BitVec 32 := 0#32
  let v19 : BitVec 1 := Scalar.cmpi .eq v18 c0_i32
  let c3_i32 : BitVec 32 := 3#32
  let c_m3_i32 : BitVec 32 := 4294967293#32
  let v20 : BitVec 32 := Scalar.select v19 c3_i32 c_m3_i32
  let v21 : BitVec 32 := Scalar.addi v5 v20
  let c16_i32_9 : BitVec 32 := 16#32
  let v22 : BitVec 32 := Scalar.addi v21 c16_i32_9
  let c8_i32_10 : BitVec 32 := 8#32
  let v23 : BitVec 32 := Scalar.remsi v22 c8_i32_10
  let c4_i32_11 : BitVec 32 := 4#32
  let v24 : BitVec 1 := Scalar.cmpi .slt v23 c4_i32_11
  let c11_i32_12 : BitVec 32 := 11#32
  let v25 : BitVec 32 := Scalar.subi c11_i32_12 v23
  let v26 : BitVec 32 := Scalar.select v24 v23 v25
  let c1_i32_273 : BitVec 32 := 1#32
  let v277 : BitVec 32 := Scalar.muli v26 c1_i32_273
  let v278 : BitVec 32 := Scalar.addi c0_i32_274 v277
  v278.toNat
def k0_dev30 (d0 : Dev nD) : Nat :=
  let c0_i32_333 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_332 : BitVec 32 := 1#32
  let v332 : BitVec 32 := Scalar.muli v11 c1_i32_332
  let v333 : BitVec 32 := Scalar.addi c0_i32_333 v332
  v333.toNat
def k0_dev31 (d0 : Dev nD) : Nat :=
  let c0_i32_413 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c16_i32 : BitVec 32 := 16#32
  let v7 : BitVec 32 := Scalar.addi v6 c16_i32
  let c8_i32_1 : BitVec 32 := 8#32
  let v8 : BitVec 32 := Scalar.remsi v7 c8_i32_1
  let c4_i32_2 : BitVec 32 := 4#32
  let v9 : BitVec 1 := Scalar.cmpi .slt v8 c4_i32_2
  let c11_i32_3 : BitVec 32 := 11#32
  let v10 : BitVec 32 := Scalar.subi c11_i32_3 v8
  let v11 : BitVec 32 := Scalar.select v9 v8 v10
  let c1_i32_412 : BitVec 32 := 1#32
  let v408 : BitVec 32 := Scalar.muli v11 c1_i32_412
  let v409 : BitVec 32 := Scalar.addi c0_i32_413 v408
  v409.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
The eight devices and the channels between them.

The kernel arranges the eight devices on a ring: the device at ring place `p` is `p` for `p < 4` and `11 - p` otherwise.
Every device multiplies its own half-blocks of `x`, and those that reach it over three kinds of channels: six slots filled by
its left neighbour (`cw`), six filled by its right neighbour (`ccw`), four filled by its partner (`par`). This module names
the places, the channels and the slots, and says which half-block of which device each slot holds once it is filled.
Everything here is finite and closed, so the facts are decided.
-/
module

public import proofs.«01_k».proof.Proof.Gen.KernelIdeal

@[expose] public section

namespace Cert.Mesh

open Cert.KernelIdeal Cert.KernelIdeal.Gen
open Idealize.ShloMosaic

/-! ## Places on the ring -/

/-- The device at ring place `p` (taken modulo eight). -/
def at' (p : ℕ) : Dev nD := ⟨if p % 8 < 4 then p % 8 else 11 - p % 8, by have : nD = 8 := rfl; split <;> omega⟩
/-- The ring place of a device. -/
def place (c : Dev nD) : ℕ := if c.val < 4 then c.val else 11 - c.val
/-- Whether the device stands at an even place; its neighbours and its partner then stand at odd places. -/
def even (c : Dev nD) : Bool := place c % 2 == 0

/-- The three devices a device talks to: 0 its right neighbour, 1 its left neighbour, 2 its partner. -/
def nbr (e : Fin 3) (c : Dev nD) : Dev nD :=
  match e with
  | 0 => at' (place c + 1)
  | 1 => at' (place c + 7)
  | 2 => if even c then at' (place c + 3) else at' (place c + 5)
/-- The direction back. -/
def opp : Fin 3 → Fin 3 := ![1, 0, 2]

theorem opp_opp : ∀ e, opp (opp e) = e := by decide
theorem nbr_opp : ∀ (e : Fin 3) (c : Dev nD), nbr (opp e) (nbr e c) = c := by decide +kernel
theorem nbr_opp' (e : Fin 3) (c : Dev nD) : nbr e (nbr (opp e) c) = c := by
  have h := nbr_opp (opp e) c; rwa [opp_opp] at h
theorem even_nbr : ∀ (e : Fin 3) (c : Dev nD), even (nbr e c) = !even c := by decide +kernel
theorem nbr_inj : ∀ (c : Dev nD) (e e' : Fin 3), nbr e c = nbr e' c → e = e' := by decide +kernel

/-- Going in direction `e` permutes the devices. -/
def nbrEquiv (e : Fin 3) : Dev nD ≃ Dev nD := ⟨nbr e, nbr (opp e), nbr_opp e, nbr_opp' e⟩

/-! ## Channels and slots -/

/-- A channel into a device: `cw t`, `ccw t`, `par t`. -/
abbrev Chan : Type := Fin 6 ⊕ Fin 6 ⊕ Fin 4
@[match_pattern] abbrev cw (t : Fin 6) : Chan := .inl t
@[match_pattern] abbrev ccw (t : Fin 6) : Chan := .inr (.inl t)
@[match_pattern] abbrev par (t : Fin 4) : Chan := .inr (.inr t)

/-- A slot of 256 rows of 4096: the two halves of the device's own block, and one slot per channel. -/
abbrev Slot : Type := Fin 2 ⊕ Chan
@[match_pattern] abbrev own (h : Fin 2) : Slot := .inl h
@[match_pattern] abbrev land (k : Chan) : Slot := .inr k

/-- Which device a channel leads to. -/
def fam : Chan → Fin 3
  | cw _ => 0
  | ccw _ => 1
  | par _ => 2

/-- Whether a device of parity `b` sends on the channel: at an even place the last two `cw` channels are idle, at an odd place
    the last two `ccw` ones. -/
def active (b : Bool) : Chan → Bool
  | cw t => !b || t.val < 4
  | ccw t => b || t.val < 4
  | par _ => true

/-- The slot a device of parity `b` sends from on the channel. -/
def src (b : Bool) : Chan → Slot
  | cw t => if t.val < 2 then own ⟨t.val % 2, Nat.mod_lt _ (by decide)⟩ else land (cw ⟨t.val - 2, by omega⟩)
  | ccw t => if t.val < 2 then own ⟨(t.val + 1) % 2, Nat.mod_lt _ (by decide)⟩ else land (ccw ⟨t.val - 2, by omega⟩)
  | par t => if t.val < 2 then own ⟨t.val % 2, Nat.mod_lt _ (by decide)⟩
      else if b then land (cw ⟨t.val - 2, by omega⟩) else land (ccw ⟨3 - t.val, by omega⟩)

/-- The device whose half-block the slot holds, -/
def org (c : Dev nD) : Slot → Dev nD
  | own _ => c
  | land (cw t) => at' (place c + 7 - t.val / 2)
  | land (ccw t) => at' (place c + 1 + t.val / 2)
  | land (par t) => if t.val < 2 then nbr 2 c else at' (place c + 4)
/-- and which half. -/
def half : Slot → Fin 2
  | own h => h
  | land (cw t) => ⟨t.val % 2, Nat.mod_lt _ (by decide)⟩
  | land (ccw t) => ⟨(t.val + 1) % 2, Nat.mod_lt _ (by decide)⟩
  | land (par t) => ⟨t.val % 2, Nat.mod_lt _ (by decide)⟩

/-- What a channel carries is what its slot is to hold at the far end. -/
theorem org_forward : ∀ (c : Dev nD) (k : Chan), active (even c) k = true →
    org (nbr (fam k) c) (land k) = org c (src (even c) k) ∧ half (land k) = half (src (even c) k) := by decide +kernel

/-- The slots a device of parity `b` multiplies: its own two and those of the channels its neighbours are active on. -/
def isUsed (b : Bool) : Slot → Bool
  | own _ => true
  | land k => active (!b) k
/-- as a set. -/
def used (b : Bool) : Finset Slot := Finset.univ.filter fun s => isUsed b s = true

/-- They hold every half of every device's block. -/
theorem used_covers : ∀ (c p : Dev nD) (h : Fin 2), ∃ s ∈ used (even c), org c s = p ∧ half s = h := by decide +kernel

/-- Where in the order of waits a channel's arrival stands. -/
def level : Chan → ℕ
  | cw t => 2 + t.val
  | ccw t => 2 + t.val
  | par t => if t.val < 2 then 2 else 4

/-! ## The printed device and branch words -/

theorem cond_even : ∀ c : Dev nD, k0_cond1 c = 1#1 ↔ even c = true := by decide +kernel
theorem cond_odd : ∀ c : Dev nD, k0_cond2 c = 1#1 ↔ even c = false := by decide +kernel

theorem dev1_eq : ∀ c : Dev nD, (⟨k0_dev1 c, k0_dev1_lt c⟩ : Dev nD) = nbr 1 c := by decide +kernel
theorem dev2_eq : ∀ c : Dev nD, (⟨k0_dev2 c, k0_dev2_lt c⟩ : Dev nD) = nbr 0 c := by decide +kernel
theorem dev3_eq : ∀ c : Dev nD, (⟨k0_dev3 c, k0_dev3_lt c⟩ : Dev nD) = nbr 2 c := by decide +kernel

/-- The devices the copies of the even branch address, in program order, and the channels they go over; -/
def evenDev : Fin 14 → Dev nD → ℕ := ![k0_dev4, k0_dev5, k0_dev6, k0_dev7, k0_dev8, k0_dev9, k0_dev10, k0_dev11, k0_dev12, k0_dev13,
  k0_dev14, k0_dev15, k0_dev16, k0_dev17]
def evenChan : Fin 14 → Chan := ![cw 0, ccw 1, par 0, cw 1, ccw 0, par 1, cw 2, par 2, ccw 2, cw 3, par 3, ccw 3, ccw 4, ccw 5]
theorem evenDev_eq : ∀ (i : Fin 14) (c : Dev nD), even c = true → evenDev i c = (nbr (fam (evenChan i)) c).val := by decide +kernel
/-- those of the odd branch. -/
def oddDev : Fin 14 → Dev nD → ℕ := ![k0_dev18, k0_dev19, k0_dev20, k0_dev21, k0_dev22, k0_dev23, k0_dev24, k0_dev25, k0_dev26, k0_dev27,
  k0_dev28, k0_dev29, k0_dev30, k0_dev31]
def oddChan : Fin 14 → Chan := ![cw 0, ccw 1, par 0, cw 1, ccw 0, par 1, cw 2, ccw 2, par 3, cw 3, ccw 3, par 2, cw 4, cw 5]
theorem oddDev_eq : ∀ (i : Fin 14) (c : Dev nD), even c = false → oddDev i c = (nbr (fam (oddChan i)) c).val := by decide +kernel

/-- The rows of the result a slot's product goes to: the half-block's own rows. -/
def rows (c : Dev nD) (s : Slot) : Fin 2 → ℕ := ![512 * (org c s).val + 256 * (half s).val, 0]

theorem inb_rows : ∀ (c : Dev nD) (s : Slot) (a : Fin 2), rows c s a + S256x256.size a ≤ S4096x256.size a := by decide +kernel

/-- The offsets the even branch's products are stored at, in program order, and the slots multiplied; -/
def evenOff : Fin 16 → Dev nD → Fin 2 → ℕ := ![(k0_off1 · 0#32), (k0_off1 · 256#32), (k0_off2 · 1#32 0#32), (k0_off3 · 1#32 256#32),
  (k0_off4 · 0#32), (k0_off2 · 1#32 256#32), (k0_off3 · 1#32 0#32), (k0_off4 · 256#32), (k0_off2 · 2#32 0#32), (k0_off3 · 2#32 256#32),
  (k0_off3 · 4#32 0#32), (k0_off2 · 2#32 256#32), (k0_off3 · 2#32 0#32), (k0_off3 · 4#32 256#32), (k0_off2 · 3#32 0#32), (k0_off2 · 3#32 256#32)]
def evenSlot : Fin 16 → Slot := ![own 0, own 1, land (cw 0), land (ccw 0), land (par 0), land (cw 1), land (ccw 1), land (par 1),
  land (cw 2), land (ccw 2), land (par 2), land (cw 3), land (ccw 3), land (par 3), land (cw 4), land (cw 5)]
theorem evenOff_eq : ∀ (i : Fin 16) (c : Dev nD), even c = true → evenOff i c = rows c (evenSlot i) := by decide +kernel
/-- those of the odd branch. -/
def oddOff : Fin 16 → Dev nD → Fin 2 → ℕ := ![(k0_off5 · 0#32), (k0_off5 · 256#32), (k0_off6 · 1#32 0#32), (k0_off7 · 1#32 256#32),
  (k0_off8 · 0#32), (k0_off6 · 1#32 256#32), (k0_off7 · 1#32 0#32), (k0_off8 · 256#32), (k0_off6 · 2#32 0#32), (k0_off7 · 2#32 256#32),
  (k0_off7 · 4#32 0#32), (k0_off6 · 2#32 256#32), (k0_off7 · 2#32 0#32), (k0_off7 · 4#32 256#32), (k0_off7 · 3#32 256#32), (k0_off7 · 3#32 0#32)]
def oddSlot : Fin 16 → Slot := ![own 0, own 1, land (cw 0), land (ccw 0), land (par 0), land (cw 1), land (ccw 1), land (par 1),
  land (cw 2), land (ccw 2), land (par 2), land (cw 3), land (ccw 3), land (par 3), land (ccw 4), land (ccw 5)]
theorem oddOff_eq : ∀ (i : Fin 16) (c : Dev nD), even c = false → oddOff i c = rows c (oddSlot i) := by decide +kernel

/-! ## The semaphores -/

/-- A channel's semaphores: departure (`false`, at the sender) and arrival (`true`, at the receiver). -/
def semOf : Bool × Chan → DmaSem sig
  | (false, cw t) => ⟨3 + t.val, by have : sig.nDmaSem = 35 := rfl; omega⟩
  | (true, cw t) => ⟨9 + t.val, by have : sig.nDmaSem = 35 := rfl; omega⟩
  | (false, ccw t) => ⟨15 + t.val, by have : sig.nDmaSem = 35 := rfl; omega⟩
  | (true, ccw t) => ⟨21 + t.val, by have : sig.nDmaSem = 35 := rfl; omega⟩
  | (false, par t) => ⟨27 + t.val, by have : sig.nDmaSem = 35 := rfl; omega⟩
  | (true, par t) => ⟨31 + t.val, by have : sig.nDmaSem = 35 := rfl; omega⟩

/-- Which channel's semaphore it is, if any (the first three are the windows'). -/
def role (q : DmaSem sig) : Option (Bool × Chan) :=
  if h : q.val < 3 then none
  else if h : q.val < 9 then some (false, cw ⟨q.val - 3, by omega⟩)
  else if h : q.val < 15 then some (true, cw ⟨q.val - 9, by omega⟩)
  else if h : q.val < 21 then some (false, ccw ⟨q.val - 15, by omega⟩)
  else if h : q.val < 27 then some (true, ccw ⟨q.val - 21, by omega⟩)
  else if h : q.val < 31 then some (false, par ⟨q.val - 27, by omega⟩)
  else some (true, par ⟨q.val - 31, by have := q.isLt; have : sig.nDmaSem = 35 := rfl; omega⟩)

theorem role_semOf : ∀ x : Bool × Chan, role (semOf x) = some x := by decide +kernel
theorem semOf_inj : Function.Injective semOf := fun x y h => by
  have := congrArg role h; rwa [role_semOf, role_semOf, Option.some_inj] at this

end Cert.Mesh

end
-- ==== Proof.Slots.lean ====
/-
The slots as memory: where each one lies, and what it is to hold.

A slot is one 256 x 4096 layer of one of the four scratch arrays. Its contents, once filled, are the half-block `V c s` of
the device `org c s`. The resource algebra of the proof is fixed here too.
-/
module

public import proofs.«01_k».proof.Proof.Mesh
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The duties of a cell are named by directions. -/
abbrev UB : Type := URounds (GSem nD τ sig) (Fin 3)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## Where a slot lies -/

theorem inb2 (h : Fin 2) : ∀ a, (![h.val, 0, 0] : Fin 3 → ℕ) a + S1x256x4096.size a ≤ S2x256x4096.size a := by revert h; decide +kernel
theorem inb6 (t : Fin 6) : ∀ a, (![t.val, 0, 0] : Fin 3 → ℕ) a + S1x256x4096.size a ≤ S6x256x4096.size a := by revert t; decide +kernel
theorem inb4 (t : Fin 4) : ∀ a, (![t.val, 0, 0] : Fin 3 → ℕ) a + S1x256x4096.size a ≤ S4x256x4096.size a := by revert t; decide +kernel

abbrev ownM : Memref sig .tc .vmem S2x256x4096 .bf16 := Memref.whole cc0_scratch0
abbrev wbfM : Memref sig .tc .vmem S4096x256 .bf16 := Memref.whole cc0_scratch1
abbrev cwM : Memref sig .tc .vmem S6x256x4096 .bf16 := Memref.whole cc0_scratch2
abbrev ccwM : Memref sig .tc .vmem S6x256x4096 .bf16 := Memref.whole cc0_scratch3
abbrev parM : Memref sig .tc .vmem S4x256x4096 .bf16 := Memref.whole cc0_scratch4
abbrev xM : Memref sig .tc .vmem S512x4096 .bf16 := Memref.whole cc0_stg0_0
abbrev wM : Memref sig .tc .vmem S4096x256 .bf16 := Memref.whole cc0_stg1_0
abbrev outM : Memref sig .tc .vmem S4096x256 .f32 := Memref.whole cc0_stg2_0

/-- The slot, as the kernel names it in a copy. -/
def slotM : Slot → Memref sig .tc .vmem S256x4096 .bf16
  | own h => (ownM.slice (Rect.unit (s := S2x256x4096) ![h.val, 0, 0] S1x256x4096.size (inb2 h)) (fun _ => rfl)).squeeze S256x4096 squeezes_S1x256x4096_S256x4096
  | land (cw t) => (cwM.slice (Rect.unit (s := S6x256x4096) ![t.val, 0, 0] S1x256x4096.size (inb6 t)) (fun _ => rfl)).squeeze S256x4096 squeezes_S1x256x4096_S256x4096
  | land (ccw t) => (ccwM.slice (Rect.unit (s := S6x256x4096) ![t.val, 0, 0] S1x256x4096.size (inb6 t)) (fun _ => rfl)).squeeze S256x4096 squeezes_S1x256x4096_S256x4096
  | land (par t) => (parM.slice (Rect.unit (s := S4x256x4096) ![t.val, 0, 0] S1x256x4096.size (inb4 t)) (fun _ => rfl)).squeeze S256x4096 squeezes_S1x256x4096_S256x4096

/-- What a copy into a slot credits: the same for every slot. -/
def N : ℕ := (slotM (own 0)).view.dmaCredit
theorem N_pos : 0 < N := View.dmaCredit_pos _ (by decide)
theorem credit_slot (s : Slot) : (slotM s).view.dmaCredit = N := by
  rcases s with h | t | t | t <;> rfl

/-! ## What a slot holds -/

variable (m : (ℓ : Loc nD τ sig) → Buf (Elt F) ℓ)

/-- Device `c`'s block of `x`, as the launch stages it, -/
def xs (c : Dev nD) : (cc0_stg0_0 : Ref sig .tc).ty.Contents (Elt F) :=
  (win0_0.blk (0 : Fin 1)).view.read (Elt F) (m ((c : Thread nD τ).loc main_arg0))
/-- its block of `w`, -/
def ws (c : Dev nD) : (cc0_stg1_0 : Ref sig .tc).ty.Contents (Elt F) :=
  (win0_1.blk (0 : Fin 1)).view.read (Elt F) (m ((c : Thread nD τ).loc main_arg1))

theorem inbx (h : Fin 2) : ∀ a, (![256 * h.val, 0] : Fin 2 → ℕ) a + S256x4096.size a ≤ S512x4096.size a := by revert h; decide +kernel
/-- and one half of its block of `x`. -/
def xh (c : Dev nD) (h : Fin 2) : Vec F S256x4096 .bf16 :=
  (xM.access (Rect.unit (s := S512x4096) ![256 * h.val, 0] S256x4096.size (inbx h))).read (Elt F) (xs m c)

/-- The half-block slot `s` of device `c` is to hold; -/
def V (c : Dev nD) (s : Slot) : Vec F S256x4096 .bf16 := xh m (org c s) (half s)
/-- the same with the leading axis a load of the slot reads it with; -/
def lv1 (c : Dev nD) (s : Slot) : Vec F S1x256x4096 .bf16 := shapeCast S1x256x4096 (V m c s) shapeCasts_S256x4096_S1x256x4096
/-- the contents of the slot's array with it written there. -/
def full (c : Dev nD) (s : Slot) : Buf (Elt F) ((slotM s).view.loc (c : Thread nD τ)) :=
  (slotM s).view.write (Elt F) (m ((slotM s).view.loc (c : Thread nD τ))) (V m c s) Finset.univ

theorem V_forward (c : Dev nD) (k : Chan) (h : active (even c) k = true) : V m (nbr (fam k) c) (land k) = V m c (src (even c) k) := by
  unfold V; rw [(org_forward c k h).1, (org_forward c k h).2]

/-- Slot `s` of device `c` filled, at a share; -/
def pt (c : Dev nD) (s : Slot) (q : PosShare TreeShare) : sProp 𝕄 :=
  (slotM s).view.loc (c : Thread nD τ) ↦[(slotM s).view.set]{q} full m c s
/-- and the slot at contents unknown. -/
def raw (c : Dev nD) (s : Slot) : sProp 𝕄 :=
  iprop(∃ f, (slotM s).view.loc (c : Thread nD τ) ↦[(slotM s).view.set]{fullShare} f)

instance pt_storable (c : Dev nD) (s : Slot) (q) : BI.Storable (upEmb : UEmb _ 𝕄) (pt m c s q) := by unfold pt; infer_instance
omit [FloatOps F] in
instance raw_storable (c : Dev nD) (s : Slot) : BI.Storable (upEmb : UEmb _ 𝕄) (raw (F := F) c s) := by unfold raw; infer_instance

omit [FloatOps F] in
/-- Contents of a buffer a view reads alike agree on the view's elements. -/
theorem agree_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

theorem read_full (c : Dev nD) (s : Slot) : (slotM s).view.read (Elt F) (full m c s) = V m c s := View.read_write_univ _ _

/-- A slot whose contents read as they should is filled. -/
theorem pt_of_read (c : Dev nD) (s : Slot) (q : PosShare TreeShare) (f : Buf (Elt F) ((slotM s).view.loc (c : Thread nD τ)))
    (h : (slotM s).view.read (Elt F) f = V m c s) :
    ((slotM s).view.loc (c : Thread nD τ) ↦[(slotM s).view.set]{q} f : sProp 𝕄) = pt m c s q :=
  pointsTo_congr (agree_of_read _ _ _ (h.trans (read_full m c s).symm))

/-! ## A slot loaded and stored as a layer of its array -/

omit [FloatOps F] in
/-- A view read through a reshape of it and cast back is the view read. -/
theorem read_unreshape {κ : Kind} {sp : Space} {s s' : Shape} {e : EltTy} (v : View sig κ sp s e) (h : s'.numel = s.numel)
    (h' : s'.ShapeCasts s) (f : v.ty.Contents (Elt F)) :
    v.read (Elt F) f = shapeCast s ((v.reshape s' h).read (Elt F) f) h' := funext fun x => by
  show v.read (Elt F) f x = v.read (Elt F) f (Shape.reshapeEquiv h (Shape.reshapeEquiv h' x))
  rw [Shape.reshapeEquiv_reshapeEquiv, Shape.reshapeEquiv_self]

section Layer

abbrev 𝒱₀ : Variants := Variants.none

variable {d : Fin 3 → ℕ} (A : Memref sig .tc .vmem ⟨3, d⟩ .bf16) (off : Fin 3 → ℕ)
  (inb : ∀ a, off a + S1x256x4096.size a ≤ (⟨3, d⟩ : Shape).size a)

/-- The layer of `A` at `off`, as a rectangle, -/
abbrev layR : Rect ⟨3, d⟩ := Rect.unit (s := ⟨3, d⟩) off S1x256x4096.size inb
/-- and as a memref of its own. -/
abbrev layM : Memref sig .tc .vmem S256x4096 .bf16 :=
  (A.slice (layR off inb) (fun _ => rfl)).squeeze S256x4096 squeezes_S1x256x4096_S256x4096

omit [FloatOps F] in
theorem lay_set : (layM A off inb).view.set = (A.access (layR off inb)).set := View.set_reshape _ _
omit [FloatOps F] in
theorem lay_read (f : A.view.ty.Contents (Elt F)) :
    (A.access (layR off inb)).read (Elt F) f = shapeCast S1x256x4096 ((layM A off inb).view.read (Elt F) f) shapeCasts_S256x4096_S1x256x4096 :=
  read_unreshape (A.access (layR off inb)) _ _ f

/-- A filled slot loaded: at any share, the value is the half-block. -/
theorem wp_load_slot (c : Dev nD) (s : Slot) (q : PosShare TreeShare) (hM : slotM s = layM A off inb)
    {hl : A.view.LoadsAt (layR off inb).toLoadRect} {α : Type} {Q : α → sProp 𝕄}
    {k : ((layR off inb).toLoadRect.shape.Idx → Elt F .bf16) → Prog (TpuEff nD τ sig (Elt F) Λ₀ .tc) α} :
    pt m c s q ⊢ iprop((pt m c s q -∗ wp frame (wpE (defs₀ (F := F)) 𝒱₀ (c : Thread nD τ) none) Set.univ (k (lv1 m c s)) Q)
      -∗ wp frame (wpE (defs₀ (F := F)) 𝒱₀ (c : Thread nD τ) none) Set.univ (.op (.load A (layR off inb).toLoadRect hl) k) Q) := by
  unfold lv1
  rw [← read_full]
  unfold pt
  generalize full m c s = f
  revert f
  rw [hM]
  intro f
  rw [← lay_read A off inb, lay_set]
  exact wp_load_rect 𝒱₀ (c : Thread nD τ) none Set.univ subset_rfl

/-- A slot loaded at contents nobody looks at, -/
theorem wp_load_raw (c : Dev nD) (s : Slot) (hM : slotM s = layM A off inb)
    {hl : A.view.LoadsAt (layR off inb).toLoadRect} {α : Type} {Q : α → sProp 𝕄}
    {k : ((layR off inb).toLoadRect.shape.Idx → Elt F .bf16) → Prog (TpuEff nD τ sig (Elt F) Λ₀ .tc) α} :
    raw c s ⊢ iprop((∀ v, raw c s -∗ wp frame (wpE (defs₀ (F := F)) 𝒱₀ (c : Thread nD τ) none) Set.univ (k v) Q)
      -∗ wp frame (wpE (defs₀ (F := F)) 𝒱₀ (c : Thread nD τ) none) Set.univ (.op (.load A (layR off inb).toLoadRect hl) k) Q) := by
  unfold raw
  rw [hM, lay_set]
  iintro ⟨%f, H⟩ Hk
  iapply (wp_load_rect 𝒱₀ (c : Thread nD τ) none Set.univ (m := A) (r := layR off inb) subset_rfl) $$ H
  iintro H
  iapply Hk
  iexists f; iexact H

/-- and a slot filled by a store of the half-block it is to hold. -/
theorem wp_store_slot (c : Dev nD) (s : Slot) (hM : slotM s = layM A off inb)
    {w : (layR off inb).shape.Idx → Elt F .bf16} (hw : w = lv1 m c s)
    {hx : (A.access (layR off inb)).Stores Finset.univ} {hm : (Finset.univ : Finset (layR off inb).shape.Idx) = Finset.univ ∨ ∀ a, (layR off inb).stride a = 1}
    {α : Type} {Q : α → sProp 𝕄} {k : PUnit → Prog (TpuEff nD τ sig (Elt F) Λ₀ .tc) α} :
    raw c s ⊢ iprop((pt m c s fullShare -∗ wp frame (wpE (defs₀ (F := F)) 𝒱₀ (c : Thread nD τ) none) Set.univ (k ⟨⟩) Q)
      -∗ wp frame (wpE (defs₀ (F := F)) 𝒱₀ (c : Thread nD τ) none) Set.univ (.op (.store A (layR off inb) w Finset.univ hx hm) k) Q) := by
  subst hw
  have key : ∀ M : Memref sig .tc .vmem S256x4096 .bf16, M = layM A off inb → ∀ g : Buf (Elt F) (M.view.loc (c : Thread nD τ)),
      M.view.read (Elt F) g = V m c s → iprop(∃ f, M.view.loc (c : Thread nD τ) ↦[M.view.set]{fullShare} f)
      ⊢ iprop(((M.view.loc (c : Thread nD τ) ↦[M.view.set]{fullShare} g) -∗ wp frame (wpE (defs₀ (F := F)) 𝒱₀ (c : Thread nD τ) none) Set.univ (k ⟨⟩) Q)
      -∗ wp frame (wpE (defs₀ (F := F)) 𝒱₀ (c : Thread nD τ) none) Set.univ (.op (.store A (layR off inb) (lv1 m c s) Finset.univ hx hm) k) Q) := by
    intro M hM g hg
    subst hM
    iintro ⟨%f, H⟩ Hk
    rw [lay_set]
    iapply (wp_store 𝒱₀ (c : Thread nD τ) none Set.univ (m := A) (r := layR off inb) (Mk := Finset.univ)
      (S := (A.access (layR off inb)).set) (by rw [View.setOn_univ])) $$ H
    iintro H
    iapply Hk
    have e : ∀ i ∈ (A.access (layR off inb)).set, (A.access (layR off inb)).write (Elt F) f (lv1 m c s) Finset.univ i = g i :=
      agree_of_read _ _ _ (by rw [View.read_write_univ, lay_read, hg]; rfl)
    iapply (show ((A.access (layR off inb)).loc (c : Thread nD τ) ↦[(A.access (layR off inb)).set]{fullShare} _ : sProp 𝕄)
        ⊢ ((layM A off inb).view.loc (c : Thread nD τ) ↦[(A.access (layR off inb)).set]{fullShare} g) from Entails.of_eq (pointsTo_congr e)) $$ H
  exact key _ hM _ (read_full m c s)

end Layer

end Cert.Mesh

end
-- ==== Proof.Sched.lean ====
/-
The protocol: which cell is credited by whom, with what payload, and in which order the waits stand.

The barrier cell of a device is credited once by each of the three devices it talks to; each hands over the slots of its own
that this device is going to fill. A departure cell is credited by the copy itself, which gives the share of the source slot
back; an arrival cell by the copy into the slot, which gives the slot filled. Every cell has one round.
-/
module

public import proofs.«01_k».proof.Proof.Slots

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The cells -/

/-- The runtime's barrier semaphore. -/
abbrev barS : Sem sig := (SemArray.scalar (sig.barrier 0 rfl) : Sems sig S_).sem
/-- A device's semaphores: the barrier's (`none`), and the channels'. -/
def csem : Option (Bool × Chan) → SemLoc sig
  | none => .reg barS
  | some x => .dma (semOf x)
abbrev cell (c : Dev nD) (x : Option (Bool × Chan)) : GSem nD τ sig := ((c : Thread nD τ), csem x)
abbrev bar (c : Dev nD) : GSem nD τ sig := ((c : Thread nD τ), .reg barS)
abbrev dcell (c : Dev nD) (x : Bool × Chan) : GSem nD τ sig := ((c : Thread nD τ), .dma (semOf x))

/-- Whether a channel's semaphore is used at all: a departure if the device sends on the channel, an arrival if the device
    at the other end does. -/
def live (b : Bool) (x : Bool × Chan) : Bool := active (xor x.1 b) x.2

/-! ## Shares -/

/-- Four shares of a slot: one for each direction it may be sent in, and one that loads read at. -/
def sh : Fin 4 → PosShare TreeShare
  | 0 => fullShare.left.left
  | 1 => fullShare.left.right
  | 2 => fullShare.right.left
  | 3 => fullShare.right.right
/-- The share a copy in a direction borrows. -/
def fsh (e : Fin 3) : Fin 4 := e.castSucc

theorem pt_split (c : Dev nD) (s : Slot) :
    pt m c s fullShare ⊣⊢ (bigSep Finset.univ fun i => pt m c s (sh i) : sProp 𝕄) := by
  have hx : ∀ q : PosShare TreeShare, (pt m c s q : sProp 𝕄) ⊣⊢ iprop(pt m c s q.left ∗ pt m c s q.right) := fun q => by
    unfold pt; exact pointsTo_share (PosShare.mem_left_op_right q)
  have e : (bigSep Finset.univ fun i => pt m c s (sh i) : sProp 𝕄)
      = iprop(pt m c s (sh 0) ∗ pt m c s (sh 1) ∗ pt m c s (sh 2) ∗ pt m c s (sh 3)) :=
    bigSep_univ_eq_bigSepL [(0 : Fin 4), 1, 2, 3] (by decide) (by decide) _
  rw [e]
  show pt m c s fullShare ⊣⊢ iprop(pt m c s fullShare.left.left ∗ pt m c s fullShare.left.right ∗ pt m c s fullShare.right.left ∗ pt m c s fullShare.right.right)
  constructor
  · iintro H
    ihave H := (hx _).1 $$ H
    icases H with ⟨H1, H2⟩
    ihave H1 := (hx _).1 $$ H1
    ihave H2 := (hx _).1 $$ H2
    icases H1 with ⟨Ha, Hb⟩
    icases H2 with ⟨Hc, Hd⟩
    isplitl [Ha]; · iexact Ha
    isplitl [Hb]; · iexact Hb
    isplitl [Hc] <;> iassumption
  · iintro ⟨Ha, Hb, Hc, Hd⟩
    iapply (hx fullShare).2
    isplitl [Ha Hb]
    · iapply (hx _).2; isplitl [Ha] <;> iassumption
    · iapply (hx _).2; isplitl [Hc] <;> iassumption

/-! ## The schedule -/

/-- What the device in direction `d` hands device `c` at the barrier: its slots that `c` fills. -/
def barPay (c : Dev nD) (d : Fin 3) : sProp 𝕄 :=
  bigSep Finset.univ fun k : Chan => if fam k = d ∧ active (even c) k = true then raw (nbr d c) (land k) else iprop(emp)

/-- What a channel's semaphore gives device `c`. -/
def chanPay (c : Dev nD) : Option (Bool × Chan) → sProp 𝕄
  | none => iprop(emp)
  | some (false, k) => pt m c (src (even c) k) (sh (fsh (fam k)))
  | some (true, k) => pt m c (land k) fullShare

def chanDuties (c : Dev nD) : Option (Bool × Chan) → Finset (Fin 3)
  | none => ∅
  | some x => if live (even c) x = true then {0} else ∅

def dutiesAt (c : Dev nD) : SemLoc sig → Finset (Fin 3)
  | .reg _ => Finset.univ
  | .dma q => chanDuties c (role q)

def payAt (c : Dev nD) (d : Fin 3) : SemLoc sig → sProp 𝕄
  | .reg _ => barPay c d
  | .dma q => chanPay m c (role q)

def amountAt : SemLoc sig → ℕ
  | .reg _ => 1
  | .dma _ => N

/-- One round per cell. -/
def rd : Rounds.Schedule (GSem nD τ sig) (Fin 3) 𝕄 where
  duties g r := if r = 0 ∧ g.1.2 = .tc then dutiesAt g.1.1 g.2 else ∅
  unitless _ := False
  amount g _ _ := amountAt g.2
  payload g _ d := payAt m g.1.1 d g.2
  amount_pos g _ _ _ := by
    show 0 < amountAt g.2
    cases g.2 with
    | reg _ => exact Nat.one_pos
    | dma _ => exact N_pos

omit [FloatOps F] in
instance barPay_storable (c : Dev nD) (d : Fin 3) : BI.Storable (upEmb : UEmb _ 𝕄) (barPay (F := F) c d) := by
  unfold barPay
  have : ∀ k : Chan, BI.Storable (upEmb : UEmb _ 𝕄) (if fam k = d ∧ active (even c) k = true then raw (F := F) (nbr d c) (land k) else iprop(emp)) := by
    intro k; split <;> infer_instance
  infer_instance

instance chanPay_storable (c : Dev nD) : ∀ o : Option (Bool × Chan), BI.Storable (upEmb : UEmb _ 𝕄) (chanPay m c o)
  | none => inferInstanceAs (BI.Storable upEmb iprop(emp))
  | some (false, k) => inferInstanceAs (BI.Storable upEmb (pt m c (src (even c) k) (sh (fsh (fam k)))))
  | some (true, k) => inferInstanceAs (BI.Storable upEmb (pt m c (land k) fullShare))

instance payAt_storable (c : Dev nD) (d : Fin 3) : ∀ sm : SemLoc sig, BI.Storable (upEmb : UEmb _ 𝕄) (payAt m c d sm)
  | .reg _ => barPay_storable c d
  | .dma q => chanPay_storable m c (role q)

instance rd_storable (g : GSem nD τ sig) (r : ℕ) (d : Fin 3) : BI.Storable (upEmb : UEmb _ 𝕄) ((rd (F := F) m).payload g r d) :=
  payAt_storable m g.1.1 d g.2

section Tables
variable (c : Dev nD)

theorem duties_bar : (rd (F := F) m).duties (bar c) 0 = Finset.univ := by
  show (if (0 : ℕ) = 0 ∧ (c : Thread nD τ).2 = Proc.tc then dutiesAt c (.reg barS) else ∅) = _
  rw [if_pos ⟨rfl, rfl⟩]; rfl
theorem duties_live (x : Bool × Chan) (h : live (even c) x = true) : (rd (F := F) m).duties (dcell c x) 0 = {0} := by
  show (if (0 : ℕ) = 0 ∧ (c : Thread nD τ).2 = Proc.tc then chanDuties c (role (semOf x)) else ∅) = _
  rw [if_pos ⟨rfl, rfl⟩, role_semOf]; exact if_pos h
theorem duties_dead (x : Bool × Chan) (h : live (even c) x = false) (r : ℕ) : (rd (F := F) m).duties (dcell c x) r = ∅ := by
  show (if r = 0 ∧ (c : Thread nD τ).2 = Proc.tc then chanDuties c (role (semOf x)) else ∅) = _
  split
  · rw [role_semOf]; exact if_neg (by rw [h]; decide)
  · rfl
theorem duties_later (g : GSem nD τ sig) : ∀ r, 1 ≤ r → (rd (F := F) m).duties g r = ∅ :=
  fun r hr => if_neg fun h => by omega

theorem amount_bar (d : Fin 3) : (rd (F := F) m).amount (bar c) 0 d = 1 := rfl
theorem amount_chan (x : Bool × Chan) (d : Fin 3) : (rd (F := F) m).amount (dcell c x) 0 d = N := rfl

theorem expect_bar : (rd (F := F) m).expect (bar c) 0 = 3 := by
  unfold Schedule.expect Schedule.amountOf
  rw [duties_bar, Finset.sum_congr rfl fun d _ => amount_bar m c d, Finset.sum_const, Finset.card_univ, Fintype.card_fin, smul_eq_mul]
theorem expect_live (x : Bool × Chan) (h : live (even c) x = true) : (rd (F := F) m).expect (dcell c x) 0 = N := by
  unfold Schedule.expect Schedule.amountOf; rw [duties_live m c x h, Finset.sum_singleton, amount_chan]

theorem payload_bar (d : Fin 3) : (rd (F := F) m).payload (bar c) 0 d = barPay c d := rfl
theorem payload_chan (x : Bool × Chan) (d : Fin 3) : (rd (F := F) m).payload (dcell c x) 0 d = chanPay m c (some x) := by
  show chanPay m c (role (semOf x)) = _
  rw [role_semOf]

theorem rest_live (x : Bool × Chan) (h : live (even c) x = true) :
    bigSep ((rd (F := F) m).duties (dcell c x) 0 \ ∅) (fun d => (rd (F := F) m).payload (dcell c x) 0 d) = chanPay m c (some x) := by
  rw [Finset.sdiff_empty, duties_live m c x h, bigSep_singleton, payload_chan]
theorem rest_bar :
    bigSep ((rd (F := F) m).duties (bar c) 0 \ ∅) (fun d => (rd (F := F) m).payload (bar c) 0 d) = iprop(barPay c 0 ∗ barPay c 1 ∗ barPay c 2) := by
  rw [Finset.sdiff_empty, duties_bar]
  exact bigSep_univ_eq_bigSepL [(0 : Fin 3), 1, 2] (by decide) (by decide) _
end Tables

/-! ## What a device owes, and the order of the waits -/

/-- The channels a device of parity `b` sends on. -/
def acts (b : Bool) : Finset Chan := Finset.univ.filter fun k => active b k = true

/-- What device `c` owes while the channels of `U` are still to be sent on; -/
def Ow (c : Dev nD) (U : Finset Chan) : CellTallies nD τ sig Unit := ∑ k ∈ U, tallyAt (dcell (nbr (fam k) c) (true, k)) () N
/-- with the barrier signals to its partner, to its right and to its left neighbour still to come. -/
def Ob2 (c : Dev nD) : CellTallies nD τ sig Unit := Ow c (acts (even c)) + tallyAt (bar (nbr 2 c)) () 1
def Ob1 (c : Dev nD) : CellTallies nD τ sig Unit := Ob2 c + tallyAt (bar (nbr 0 c)) () 1
def O₀ (c : Dev nD) : CellTallies nD τ sig Unit := Ob1 c + tallyAt (bar (nbr 1 c)) () 1

theorem Ow_erase (c : Dev nD) (U : Finset Chan) (k : Chan) (h : k ∈ U) :
    Ow c U = Ow c (U.erase k) + tallyAt (dcell (nbr (fam k) c) (true, k)) () N := (Finset.sum_erase_add _ _ h).symm
theorem Ow_empty (c : Dev nD) : Ow c ∅ = 0 := Finset.sum_empty

theorem Ow_pos {c : Dev nD} {U : Finset Chan} {g : GSem nD τ sig} {u : Unit} (h : 0 < Ow c U g u) :
    ∃ k ∈ U, g = dcell (nbr (fam k) c) (true, k) := by
  by_contra hn
  refine absurd h (Nat.not_lt.2 (Nat.le_of_eq ?_))
  unfold Ow
  rw [Finset.sum_apply, Finsupp.finset_sum_apply]
  refine Finset.sum_eq_zero fun k hk => ?_
  rw [tallyAt_apply]
  exact if_neg fun h' => hn ⟨k, hk, h'.1⟩

theorem O₀_pos {c : Dev nD} {g : GSem nD τ sig} {u : Unit} (h : 0 < O₀ c g u) :
    (∃ k, g = dcell (nbr (fam k) c) (true, k)) ∨ ∃ e, g = bar (nbr e c) := by
  unfold O₀ Ob1 Ob2 at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨2, h'.1⟩), if_neg (fun h' => hn.2 ⟨0, h'.1⟩), if_neg (fun h' => hn.2 ⟨1, h'.1⟩)] at h
  obtain ⟨k, -, hk⟩ := Ow_pos h
  exact hn.1 ⟨k, hk⟩

def L (g : GSem nD τ sig) : Finset Unit := if g.1.2 = .tc then {()} else ∅
/-- The barrier stands at 1, an arrival at its channel's level, everything else at 0. -/
def chanLv : Option (Bool × Chan) → ℕ
  | some (true, k) => level k
  | _ => 0
def semLv : SemLoc sig → ℕ
  | .reg _ => 1
  | .dma q => chanLv (role q)
def lv (g : GSem nD τ sig) (_ : Unit) : ℕ := semLv g.2

theorem L_of_ne (g : GSem nD τ sig) (h : g.1.2 ≠ .tc) : L g = ∅ := if_neg h
theorem L_tc (c : Dev nD) (sm : SemLoc sig) : L ((c : Thread nD τ), sm) = {()} := if_pos rfl
theorem lv_in (c : Dev nD) (k : Chan) : lv (dcell c (true, k)) () = level k := by
  show chanLv (role (semOf (true, k))) = _
  rw [role_semOf]; rfl
theorem lv_out (c : Dev nD) (k : Chan) : lv (dcell c (false, k)) () = 0 := by
  show chanLv (role (semOf (false, k))) = _
  rw [role_semOf]; rfl
theorem level_pos : ∀ k : Chan, 1 < level k := by decide

omit [FloatOps F] in
/-- A wait at level `n` while the channels of `U` are unsent: all of them stand higher. -/
theorem mayWait (c : Dev nD) (sm : SemLoc sig) (n : ℕ) (hn : lv ((c : Thread nD τ), sm) () ≤ n) (U : Finset Chan) (hU : ∀ k ∈ U, n < level k) :
    (levAts L lv : sProp 𝕄) ⊢ MayWait (c : Thread nD τ) sm () (Ow c U) :=
  MayOwe.of_cut (L := L) (lev := lv) n (fun p hp => by rw [Finset.mem_singleton.mp hp, L_tc]; exact Finset.mem_singleton_self _)
    (fun g u hg => by obtain ⟨k, -, rfl⟩ := Ow_pos hg; exact Finset.mem_singleton_self _)
    (fun p hp => by rw [Finset.mem_singleton.mp hp]; exact hn)
    (fun g u hg => by obtain ⟨k, hk, rfl⟩ := Ow_pos hg; rw [lv_in]; exact hU k hk)

omit [FloatOps F] in
/-- A staging copy waits at level 0, below everything owed. -/
theorem mayWait_stage (c : Dev nD) (q : DmaSem sig) (hq : role q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨e, rfl⟩ <;> exact Finset.mem_singleton_self _)
      (fun p hp => by
        rw [Finset.mem_singleton.mp hp]
        show chanLv (role q) ≤ 0
        rw [hq]; exact Nat.le_refl 0)
      (fun g u hg => by
        rcases O₀_pos hg with ⟨k, rfl⟩ | ⟨e, rfl⟩
        · rw [lv_in]; exact Nat.lt_trans Nat.zero_lt_one (level_pos k)
        · exact Nat.one_pos)
  · rw [MayWait_zero]; iintro -; iempintro

end Cert.Mesh

end
-- ==== Proof.Steps.lean ====
/-
The steps of the kernel's body, each over one table entry: a copy sent, an arrival awaited, a departure awaited, a slot loaded.

The body's progress is one assertion over finite sets: the channels not yet sent on, those in flight, those whose arrival is
still awaited, the semaphores already back at rest, and the shares of slots at hand. Each step moves elements between them.
-/
module

public import proofs.«01_k».proof.Proof.Sched

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## Separating conjunctions over finite sets -/

omit [FloatOps F] in
theorem sep_insert {I : Type} [DecidableEq I] {Φ : I → sProp 𝕄} {i : I} {s : Finset I} (h : i ∉ s) :
    bigSep (insert i s) Φ = iprop(Φ i ∗ bigSep s Φ) := bigSep_insert h
omit [FloatOps F] in
theorem sep_erase {I : Type} [DecidableEq I] {Φ : I → sProp 𝕄} {i : I} {s : Finset I} (h : i ∈ s) :
    bigSep s Φ = iprop(Φ i ∗ bigSep (s.erase i) Φ) := bigSep_erase h
omit [FloatOps F] in
theorem sep_union {I : Type} [DecidableEq I] {Φ : I → sProp 𝕄} {s t : Finset I} (h : Disjoint s t) :
    bigSep (s ∪ t) Φ = iprop(bigSep s Φ ∗ bigSep t Φ) := bigSep_union h
omit [FloatOps F] in
theorem sep_elim {I : Type} [DecidableEq I] {Φ : I → sProp 𝕄} {i : I} {s : Finset I} (h : i ∈ s) :
    (bigSep s Φ : sProp 𝕄) ⊢ Φ i := bigSep_elim h

/-! ## The state -/

/-- A device and one of its semaphores. -/
abbrev Cid : Type := Dev nD × Option (Bool × Chan)

/-- Every cell's invariant, under the names `K`, and that its round is reached; and the levels. -/
def recs (K : Cid → ℕ) : sProp 𝕄 :=
  iprop((bigSep Finset.univ fun i : Cid => cellInv ER (rd m) (K i) (cell i.1 i.2))
    ∗ (bigSep Finset.univ fun i : Cid => reached ER (cell i.1 i.2) 0) ∗ levAts L lv)

instance recs_persistent (K : Cid → ℕ) : BI.Persistent (recs m K) := by unfold recs; infer_instance

/-- What sending on a channel takes: its two duties, the position at the departure cell, and the far slot. -/
def unsent (c : Dev nD) (k : Chan) : sProp 𝕄 :=
  iprop(dutyTok ER (dcell c (false, k)) 0 0 ∗ dutyTok ER (dcell (nbr (fam k) c) (true, k)) 0 0
    ∗ atPos ER (dcell c (false, k)) 0 ∅ 0 ∗ raw (nbr (fam k) c) (land k))
/-- What awaiting a semaphore's credit takes. -/
def pending (c : Dev nD) (x : Bool × Chan) : sProp 𝕄 :=
  iprop(cred (tallyAt (dcell c x) () N) ∗ atPos ER (dcell c x) 0 ∅ 0)
/-- A semaphore at rest. -/
def rest (c : Dev nD) (x : Bool × Chan) : sProp 𝕄 := semVal (dcell c x) 0
/-- One of the four shares of a filled slot. -/
def piece (c : Dev nD) (x : Slot × Fin 4) : sProp 𝕄 := pt m c x.1 (sh x.2)

/-- The state: `U` unsent, `P` the semaphores to be awaited, `D` those at rest, `H` the shares at hand. -/
def S (c : Dev nD) (K : Cid → ℕ) (U : Finset Chan) (P D : Finset (Bool × Chan)) (H : Finset (Slot × Fin 4)) : sProp 𝕄 :=
  iprop(recs m K ∗ (∃ W : Waits sig Unit, owes (c : Thread nD τ) (Ow c U) W)
    ∗ bigSep U (unsent c) ∗ bigSep P (pending c) ∗ bigSep D (rest c) ∗ bigSep H (piece m c))

theorem inv_of (K : Cid → ℕ) (i : Cid) :
    (bigSep Finset.univ fun i : Cid => (cellInv ER (rd m) (K i) (cell i.1 i.2) : sProp 𝕄)) ⊢ cellInv ER (rd m) (K i) (cell i.1 i.2) :=
  sep_elim (Finset.mem_univ i)
omit [FloatOps F] in
theorem reached_of (i : Cid) :
    (bigSep Finset.univ fun i : Cid => (reached ER (cell i.1 i.2) 0 : sProp 𝕄)) ⊢ reached ER (cell i.1 i.2) 0 :=
  sep_elim (Finset.mem_univ i)

/-- A slot's four shares, added. -/
def withSlot (s : Slot) (H : Finset (Slot × Fin 4)) : Finset (Slot × Fin 4) :=
  insert (s, 0) (insert (s, 1) (insert (s, 2) (insert (s, 3) H)))

theorem add_slot (c : Dev nD) (s : Slot) (H : Finset (Slot × Fin 4)) (h : ∀ i, (s, i) ∉ H) :
    iprop(pt m c s fullShare ∗ bigSep H (piece m c)) ⊢ bigSep (withSlot s H) (piece m c) := by
  have e : (bigSep Finset.univ fun i => pt m c s (sh i) : sProp 𝕄)
      = iprop(piece m c (s, 0) ∗ piece m c (s, 1) ∗ piece m c (s, 2) ∗ piece m c (s, 3)) :=
    bigSep_univ_eq_bigSepL [(0 : Fin 4), 1, 2, 3] (by decide) (by decide) _
  unfold withSlot
  rw [sep_insert (by simp [h]), sep_insert (by simp [h]), sep_insert (by simp [h]), sep_insert (h 3)]
  iintro ⟨Hs, HH⟩
  ihave Hs := ((pt_split m c s).1.trans (Entails.of_eq e)) $$ Hs
  icases Hs with ⟨H0, H1, H2, H3⟩
  isplitl [H0]; · iexact H0
  isplitl [H1]; · iexact H1
  isplitl [H2]; · iexact H2
  isplitl [H3] <;> iassumption

section Steps

variable (K : Cid → ℕ) {U : Finset Chan} {P D : Finset (Bool × Chan)} {H : Finset (Slot × Fin 4)}

/-- A copy sent on channel `k`. -/
theorem step_send (c n : Dev nD) {b : Bool} (hb : even c = b) (k : Chan) (hn : n = nbr (fam k) c)
    (src' dst' : Memref sig .tc .vmem S256x4096 .bf16) (qs qr : DmaSem sig)
    (hsrc : slotM (src b k) = src') (hdst : slotM (land k) = dst') (hqs : semOf (false, k) = qs) (hqr : semOf (true, k) = qr)
    (hact : active b k = true) (hU : k ∈ U) (hP : (false, k) ∉ P) (hH : (src b k, fsh (fam k)) ∈ H)
    {hsc : (dst' : Memref sig (Dev.tc n : Thread nD τ).2.kind .vmem S256x4096 .bf16).view.ref.isScScratch = false}
    {hs : src'.view.WordExact} {hd : (dst' : Memref sig (Dev.tc n : Thread nD τ).2.kind .vmem S256x4096 .bf16).view.WordExact}
    {hsem : DmaTarget.Typed .vmem (.dma qr) (.remote (Dev.tc n : Thread nD τ) dst' (.dma qs) hsc)}
    {α : Type} {Q : α → sProp 𝕄} {kk : PUnit → Prog (TpuEff nD τ sig (Elt F) Λ₀ .tc) α} :
    S m c K U P D H
      ⊢ iprop((S m c K (U.erase k) (insert (false, k) P) D (H.erase (src b k, fsh (fam k)))
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src' (.remote (Dev.tc n : Thread nD τ) dst' (.dma qs) hsc) (.dma qr) hs hd hsem) kk) Q) := by
  subst hn hsrc hdst hqs hqr hb
  unfold S recs
  rw [sep_erase hU, sep_erase hH, sep_insert hP]
  iintro ⟨⟨#HI, #HR, #HL⟩, ⟨%W, HO⟩, ⟨Hk, HU⟩, HP, HD, ⟨Hs, HH⟩⟩ Hkk
  unfold unsent piece raw
  icases Hk with ⟨Hts, Htr, Hat, ⟨%fd, Hd⟩⟩
  have hl₂ : live (even (nbr (fam k) c)) (true, k) = true := by
    rw [even_nbr]; unfold live; rw [Bool.true_xor, Bool.not_not]; exact hact
  have hl₁ : live (even c) (false, k) = true := by unfold live; rw [Bool.false_xor]; exact hact
  iapply (Rounds.wp_send_pointsTo 𝒱₀ ER (rd m) (c : Thread nD τ) none (κ₁ := K (c, some (false, k))) (κ₂ := K (nbr (fam k) c, some (true, k)))
    (c' := (nbr (fam k) c : Thread nD τ)) (sS := .dma (semOf (false, k))) (sem := .dma (semOf (true, k))) (src := slotM (src (even c) k)) (dst := slotM (land k)) (q := sh (fsh (fam k))) (fs := full m c (src (even c) k))
    (r₁ := 0) (r₂ := 0) (d₁ := 0) (d₂ := 0) (fd := fd)
    (by rw [duties_live m c _ hl₁]; exact Finset.mem_singleton_self _) (by rw [duties_live m _ _ hl₂]; exact Finset.mem_singleton_self _)
    () () N (credit_slot _) (amount_chan m c (false, k) 0) (amount_chan m (nbr (fam k) c) (true, k) 0) (Ow c (U.erase k)) (Ow_erase c U k hU) (W := W)
    (by rw [payload_chan]; exact BI.Entails.refl _)
    (by
      rw [payload_chan]
      refine Entails.of_eq (pt_of_read m (nbr (fam k) c) (land k) fullShare _ ?_)
      rw [View.read_write_univ, read_full, V_forward m c k hact]))
    $$ [HO Hts Htr Hs Hd]
  · isplitr; · iapply (inv_of m K (c, some (false, k))); iexact HI
    isplitr; · iapply (inv_of m K (nbr (fam k) c, some (true, k))); iexact HI
    isplitl [Hs]; · unfold pt; iexact Hs
    isplitl [Hd]; · iexact Hd
    isplitl [HO]; · iexact HO
    isplitl [Hts]; · iexact Hts
    isplitr; · iapply (reached_of (c, some (false, k))); iexact HR
    isplitl [Htr]; · iexact Htr
    iapply (reached_of (nbr (fam k) c, some (true, k))); iexact HR
  iintro ⟨Hc, HO⟩
  iapply Hkk
  isplitr
  · isplitr; · iexact HI
    isplitr; · iexact HR
    iexact HL
  isplitl [HO]; · iexists W; iexact HO
  isplitl [HU]; · iexact HU
  isplitl [Hc Hat HP]
  · isplitl [Hc Hat]
    · unfold pending; isplitl [Hc] <;> iassumption
    · iexact HP
  isplitl [HD] <;> iassumption

/-- An awaited semaphore's wait: its payload comes, and the semaphore is at rest. -/
theorem step_wait (c : Dev nD) {b : Bool} (hb : even c = b) (x : Bool × Chan) (n : ℕ) (hn : lv (dcell c x) () ≤ n)
    (q : DmaSem sig) (hq : semOf x = q)
    (hl : live b x = true) (hP : x ∈ P) (hD : x ∉ D) (hU : ∀ k ∈ U, n < level k)
    {s s' : Shape} {e e' : EltTy} {sp sp' : Space} {a : Memref sig .tc sp' s' e'} {κ' : Kind} {d : Memref sig κ' sp s e} {ha : a.view.WordExact} {hd : d.view.WordExact}
    (hN : d.view.dmaCredit = N)
    {α : Type} {Q : α → sProp 𝕄} {kk : PUnit → Prog (TpuEff nD τ sig (Elt F) Λ₀ .tc) α} :
    S m c K U P D H
      ⊢ iprop((iprop(chanPay m c (some x) ∗ S m c K U (P.erase x) (insert x D) H)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q a d ha hd) kk) Q) := by
  subst hq hb
  unfold S recs
  rw [sep_erase hP, sep_insert hD]
  iintro ⟨⟨#HI, #HR, #HL⟩, ⟨%W, HO⟩, HU, ⟨Hx, HP⟩, HD, HH⟩ Hkk
  unfold pending
  icases Hx with ⟨Hc, Hat⟩
  iapply (Rounds.wp_wait_rest_token 𝒱₀ ER (rd m) (c : Thread nD τ) none (κ := K (c, some x)) (sm := .dma (semOf x)) (k' := N)
      (fun Q' => by rw [← hN]; exact wpE_waitDma2_eq 𝒱₀ (c : Thread nD τ) none Set.univ Q') (Set.mem_univ _) () (O := Ow c U) (W := W) (R := 0) (m := 0) (T := ∅)
      (by rw [Nat.zero_add]; exact (expect_live m c x hl).symm)) $$ [Hc HO Hat]
  · isplitr; · iapply (inv_of m K (c, some x)); iexact HI
    isplitl [Hc]; · iexact Hc
    isplitl [HO]; · iexact HO
    isplitr; · iapply (mayWait c _ n hn U hU); iexact HL
    iexact Hat
  iintro ⟨HO, Hat, -, Hpay⟩
  ihave Hp := (Entails.of_eq (rest_live m c x hl)) $$ Hpay
  imod (Rounds.cell_close ER (rd m) (Set.mem_univ (K (c, some x))) (fun h => h) (R := 0 + 1) (duties_later m (dcell c x))) $$ [Hat] with Hz
  · isplitr; · iapply (inv_of m K (c, some x)); iexact HI
    iexact Hat
  iapply Hkk
  isplitl [Hp]; · iexact Hp
  isplitr
  · isplitr; · iexact HI
    isplitr; · iexact HR
    iexact HL
  isplitl [HO]; · iexists _; iexact HO
  isplitl [HU]; · iexact HU
  isplitl [HP]; · iexact HP
  isplitl [Hz HD]
  · isplitl [Hz]; · unfold rest; iexact Hz
    iexact HD
  iexact HH

/-- An arrival awaited: the slot's shares are at hand. -/
theorem step_recv (c : Dev nD) {b : Bool} (hb : even c = b) (k : Chan) (q : DmaSem sig) (hq : semOf (true, k) = q)
    (hl : live b (true, k) = true) (hP : (true, k) ∈ P) (hD : (true, k) ∉ D) (hU : ∀ k' ∈ U, level k < level k') (hH : ∀ i, (land k, i) ∉ H)
    {s s' : Shape} {e e' : EltTy} {sp sp' : Space} {a : Memref sig .tc sp' s' e'} {κ' : Kind} {d : Memref sig κ' sp s e} {ha : a.view.WordExact} {hd : d.view.WordExact}
    (hN : d.view.dmaCredit = N)
    {α : Type} {Q : α → sProp 𝕄} {kk : PUnit → Prog (TpuEff nD τ sig (Elt F) Λ₀ .tc) α} :
    S m c K U P D H
      ⊢ iprop((S m c K U (P.erase (true, k)) (insert (true, k) D) (withSlot (land k) H)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q a d ha hd) kk) Q) := by
  iintro HS Hkk
  iapply (step_wait m K c hb (true, k) (level k) (Nat.le_of_eq (lv_in c k)) q hq hl hP hD hU hN) $$ HS
  iintro ⟨Hp, HS⟩
  iapply Hkk
  unfold S
  icases HS with ⟨HR, HO, HU, HP, HD, HH⟩
  isplitl [HR]; · iexact HR
  isplitl [HO]; · iexact HO
  isplitl [HU]; · iexact HU
  isplitl [HP]; · iexact HP
  isplitl [HD]; · iexact HD
  iapply (add_slot m c (land k) H hH)
  isplitl [Hp]
  · unfold chanPay; iexact Hp
  · iexact HH

/-- A departure awaited: the share it borrowed is back. -/
theorem step_back (c : Dev nD) {b : Bool} (hb : even c = b) (k : Chan) (q : DmaSem sig) (hq : semOf (false, k) = q)
    (hl : live b (false, k) = true) (hP : (false, k) ∈ P) (hD : (false, k) ∉ D) (hH : (src b k, fsh (fam k)) ∉ H)
    {s s' : Shape} {e e' : EltTy} {sp sp' : Space} {a : Memref sig .tc sp' s' e'} {κ' : Kind} {d : Memref sig κ' sp s e} {ha : a.view.WordExact} {hd : d.view.WordExact}
    (hN : d.view.dmaCredit = N)
    {α : Type} {Q : α → sProp 𝕄} {kk : PUnit → Prog (TpuEff nD τ sig (Elt F) Λ₀ .tc) α} :
    S m c K U P D H
      ⊢ iprop((S m c K U (P.erase (false, k)) (insert (false, k) D) (insert (src b k, fsh (fam k)) H)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.waitDma2 q a d ha hd) kk) Q) := by
  iintro HS Hkk
  iapply (step_wait m K c hb (false, k) 0 (Nat.le_of_eq (lv_out c k)) q hq hl hP hD (fun k _ => Nat.lt_trans Nat.zero_lt_one (level_pos k)) hN) $$ HS
  iintro ⟨Hp, HS⟩
  iapply Hkk
  unfold S
  icases HS with ⟨HR, HO, HU, HP, HD, HH⟩
  isplitl [HR]; · iexact HR
  isplitl [HO]; · iexact HO
  isplitl [HU]; · iexact HU
  isplitl [HP]; · iexact HP
  isplitl [HD]; · iexact HD
  rw [sep_insert hH]
  isplitl [Hp]
  · subst hb; unfold chanPay piece; iexact Hp
  · iexact HH

/-- A filled slot loaded, at the share kept for that. -/
theorem step_load (c : Dev nD) (s : Slot) (hH : (s, 3) ∈ H) {d : Fin 3 → ℕ} (A : Memref sig .tc .vmem ⟨3, d⟩ .bf16) (off : Fin 3 → ℕ)
    (inb : ∀ a, off a + S1x256x4096.size a ≤ (⟨3, d⟩ : Shape).size a) (hM : slotM s = layM A off inb)
    {hl : A.view.LoadsAt (layR off inb).toLoadRect} {α : Type} {Q : α → sProp 𝕄}
    {k : ((layR off inb).toLoadRect.shape.Idx → Elt F .bf16) → Prog (TpuEff nD τ sig (Elt F) Λ₀ .tc) α} :
    S m c K U P D H
      ⊢ iprop((S m c K U P D H -∗ wp frame (wpE (defs₀ (F := F)) 𝒱₀ (c : Thread nD τ) none) Set.univ (k (lv1 m c s)) Q)
        -∗ wp frame (wpE (defs₀ (F := F)) 𝒱₀ (c : Thread nD τ) none) Set.univ (.op (.load A (layR off inb).toLoadRect hl) k) Q) := by
  unfold S
  rw [sep_erase hH]
  iintro ⟨HR, HO, HU, HP, HD, ⟨Hs, HH⟩⟩ Hk
  unfold piece
  iapply (wp_load_slot m A off inb c s (sh 3) hM) $$ Hs
  iintro Hs
  iapply Hk
  isplitl [HR]; · iexact HR
  isplitl [HO]; · iexact HO
  isplitl [HU]; · iexact HU
  isplitl [HP]; · iexact HP
  isplitl [HD]; · iexact HD
  isplitl [Hs] <;> iassumption

/-- An own slot, just filled, joins the state. -/
theorem step_fill (c : Dev nD) (s : Slot) (hH : ∀ i, (s, i) ∉ H) :
    iprop(pt m c s fullShare ∗ S m c K U P D H) ⊢ S m c K U P D (withSlot s H) := by
  unfold S
  iintro ⟨Hs, HR, HO, HU, HP, HD, HH⟩
  isplitl [HR]; · iexact HR
  isplitl [HO]; · iexact HO
  isplitl [HU]; · iexact HU
  isplitl [HP]; · iexact HP
  isplitl [HD]; · iexact HD
  iapply (add_slot m c s H hH)
  isplitl [Hs] <;> iassumption

end Steps

end Cert.Mesh

end
-- ==== Proof.Out.lean ====
/-
The products: what each store writes to the result, and the buffers the products are made from.

The result is written sixteen times, each time the 256 rows of one half-block of `x`. What is known of it on the way: on the
rows of every slot multiplied so far it holds the final contents.
-/
module

public import proofs.«01_k».proof.Proof.Steps
public import Idealize.ShloMosaic.Lib.Pipeline.Value

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The values -/

/-- A half-block times a block of `w`. -/
def mm (x : Vec F S256x4096 .bf16) (w : Vec F S4096x256 .bf16) : Vec F S256x256 .f32 :=
  matmul dot_S256x4096_S4096x256_S256x256_1_0_0_1_n_n none x w (constant S256x256 .f32 0x00000000#32)

/-- Slot `s`'s product on device `c`. -/
def prod (c : Dev nD) (s : Slot) : Vec F S256x256 .f32 := mm (V m c s) (ws m c)

/-- Which device's block of `x` a row of the result comes from, and which half of it. -/
def rowDev (i : S4096x256.Idx) : Dev nD := ⟨(i 0).val / 512, by
  have h : (i 0).val < 4096 := (i 0).isLt
  have : nD = 8 := rfl
  omega⟩
def rowHalf (i : S4096x256.Idx) : Fin 2 := ⟨(i 0).val % 512 / 256, by omega⟩
/-- The place in that half's product. -/
def rowIn (i : S4096x256.Idx) : S256x256.Idx := fun a => ⟨(![(i 0).val % 256, (i 1).val] : Fin 2 → ℕ) a, by
  revert a; exact Fin.forall_fin_two.mpr ⟨Nat.mod_lt _ (by decide), (i 1).isLt⟩⟩

/-- The result on device `c`. -/
def outAt (c : Dev nD) : Vec F S4096x256 .f32 := fun i => mm (xh m (rowDev i) (rowHalf i)) (ws m c) (rowIn i)

/-- The rows a slot's product goes to. -/
abbrev rowR (c : Dev nD) (s : Slot) : Rect S4096x256 := Rect.unit (s := S4096x256) (rows c s) S256x256.size (inb_rows c s)

omit [FloatOps F] in
theorem emb_row (c : Dev nD) (s : Slot) (x : S256x256.Idx) :
    (((rowR c s).emb x : S4096x256.Idx) 0).val = 512 * (org c s).val + 256 * (half s).val + (x 0).val
      ∧ (((rowR c s).emb x : S4096x256.Idx) 1).val = (x 1).val := by
  constructor
  · rw [Rect.emb_apply]
    show (rows c s 0) + 1 * (x 0).val = _
    rw [Nat.one_mul]; rfl
  · rw [Rect.emb_apply]
    show (rows c s 1) + 1 * (x 1).val = _
    rw [Nat.one_mul]; exact Nat.zero_add _

theorem prod_at (c : Dev nD) (s : Slot) (x : S256x256.Idx) : prod m c s x = outAt m c ((rowR c s).emb x) := by
  obtain ⟨h0, h1⟩ := emb_row c s x
  have hx : (x 0).val < 256 := (x 0).isLt
  have hh : (half s).val < 2 := (half s).isLt
  have hd : rowDev ((rowR c s).emb x) = org c s := Fin.ext (by show (((rowR c s).emb x : S4096x256.Idx) 0).val / 512 = _; rw [h0]; omega)
  have hf : rowHalf ((rowR c s).emb x) = half s := Fin.ext (by show (((rowR c s).emb x : S4096x256.Idx) 0).val % 512 / 256 = _; rw [h0]; omega)
  have hi : rowIn ((rowR c s).emb x) = x := funext (Fin.forall_fin_two.mpr ⟨Fin.ext
    (by show (((rowR c s).emb x : S4096x256.Idx) 0).val % 256 = (x 0).val; rw [h0]; omega), Fin.ext h1⟩)
  unfold prod outAt
  rw [hd, hf, hi]; rfl

/-- Every place of the result is in the rows of some used slot. -/
theorem row_covered (c : Dev nD) (i : S4096x256.Idx) : ∃ s ∈ used (even c), ∃ x : S256x256.Idx, (rowR c s).emb x = i := by
  obtain ⟨s, hs, ho, hf⟩ := used_covers c (rowDev i) (rowHalf i)
  refine ⟨s, hs, rowIn i, ?_⟩
  obtain ⟨h0, h1⟩ := emb_row c s (rowIn i)
  rw [ho, hf] at h0
  refine funext (Fin.forall_fin_two.mpr ⟨Fin.ext (h0.trans ?_), Fin.ext h1⟩)
  show 512 * ((i 0).val / 512) + 256 * ((i 0).val % 512 / 256) + (i 0).val % 256 = (i 0).val
  omega

/-! ## The buffers -/

/-- The result's staging buffer, final on the rows of the slots in `T`. -/
def outs (c : Dev nD) (T : Finset Slot) : sProp 𝕄 :=
  iprop(∃ f : Buf (Elt F) (outM.view.loc (c : Thread nD τ)), (outM.view.loc (c : Thread nD τ) ↦{fullShare} f)
    ∗ ⌜∀ s ∈ T, ∀ x : S256x256.Idx, outM.view.read (Elt F) f ((rowR c s).emb x) = outAt m c ((rowR c s).emb x)⌝)

theorem wp_load_out (c : Dev nD) (T : Finset Slot) (r : Rect S4096x256)
    {hl : outM.view.LoadsAt r.toLoadRect} {α : Type} {Q : α → sProp 𝕄}
    {k : (r.toLoadRect.shape.Idx → Elt F .f32) → Prog (TpuEff nD τ sig (Elt F) Λ₀ .tc) α} :
    outs m c T ⊢ iprop((∀ v, outs m c T -∗ wp frame (wpE (defs₀ (F := F)) 𝒱₀ (c : Thread nD τ) none) Set.univ (k v) Q)
      -∗ wp frame (wpE (defs₀ (F := F)) 𝒱₀ (c : Thread nD τ) none) Set.univ (.op (.load outM r.toLoadRect hl) k) Q) := by
  unfold outs
  iintro ⟨%f, H, %hf⟩ Hk
  iapply (wp_load 𝒱₀ (c : Thread nD τ) none Set.univ (m := outM) (Finset.subset_univ _)) $$ H
  iintro H
  iapply Hk
  iexists f
  isplitl [H]; · iexact H
  ipureintro; exact hf

theorem wp_store_out (c : Dev nD) (T : Finset Slot) (s : Slot) (off : Fin 2 → ℕ) (inb : ∀ a, off a + S256x256.size a ≤ S4096x256.size a)
    (hoff : off = rows c s) {w : Vec F S256x256 .f32} (hw : w = prod m c s)
    {hx : (outM.access (Rect.unit (s := S4096x256) off S256x256.size inb)).Stores Finset.univ}
    {hm : (Finset.univ : Finset (Rect.unit (s := S4096x256) off S256x256.size inb).shape.Idx) = Finset.univ ∨ ∀ a, (Rect.unit (s := S4096x256) off S256x256.size inb).stride a = 1}
    {α : Type} {Q : α → sProp 𝕄} {k : PUnit → Prog (TpuEff nD τ sig (Elt F) Λ₀ .tc) α} :
    outs m c T ⊢ iprop((outs m c (insert s T) -∗ wp frame (wpE (defs₀ (F := F)) 𝒱₀ (c : Thread nD τ) none) Set.univ (k ⟨⟩) Q)
      -∗ wp frame (wpE (defs₀ (F := F)) 𝒱₀ (c : Thread nD τ) none) Set.univ
        (.op (.store outM (Rect.unit (s := S4096x256) off S256x256.size inb) w Finset.univ hx hm) k) Q) := by
  subst hoff hw
  unfold outs
  iintro ⟨%f, H, %hf⟩ Hk
  iapply (wp_store 𝒱₀ (c : Thread nD τ) none Set.univ (m := outM) (r := rowR c s) (Mk := Finset.univ) (S := Finset.univ) (Finset.subset_univ _)) $$ H
  iintro H
  iapply Hk
  iexists _
  isplitl [H]; · iexact H
  ipureintro
  intro t ht x
  by_cases hx : (rowR c t).emb x ∈ Finset.univ.map (rowR c s).emb
  · obtain ⟨y, -, hy⟩ := Finset.mem_map.mp hx
    rw [← hy]
    exact (View.read_slice_write_emb (v := outM.view) (rowR c s) f (prod m c s) (Finset.mem_univ y)).trans (prod_at m c s y)
  · refine (View.read_slice_write_of_not_mem (v := outM.view) (rowR c s) f (prod m c s) Finset.univ hx).trans ?_
    refine hf t ((Finset.mem_insert.mp ht).resolve_left ?_) x
    rintro rfl
    exact hx (Finset.mem_map.mpr ⟨x, Finset.mem_univ _, rfl⟩)

/-- With every used slot multiplied the result is final. -/
theorem outs_final (c : Dev nD) (T : Finset Slot) (hT : used (even c) ⊆ T) :
    outs m c T ⊢ (outM.view.loc (c : Thread nD τ) ↦{fullShare} (outAt m c : Buf (Elt F) (outM.view.loc (c : Thread nD τ))) : sProp 𝕄) := by
  unfold outs
  iintro ⟨%f, H, %hf⟩
  have e : f = outAt m c := funext fun i => by
    obtain ⟨s, hs, x, rfl⟩ := row_covered c i
    have h := hf s (hT hs) x
    rw [View.read_apply] at h
    exact h
  rw [← e]; iexact H

theorem outs_init (c : Dev nD) (f : Buf (Elt F) (outM.view.loc (c : Thread nD τ))) :
    (outM.view.loc (c : Thread nD τ) ↦{fullShare} f : sProp 𝕄) ⊢ outs m c ∅ := by
  unfold outs
  iintro H
  iexists f
  isplitl [H]; · iexact H
  ipureintro; intro s hs; exact absurd hs (Finset.notMem_empty s)

/-! ## `x` and `w` -/

omit [FloatOps F] in
theorem hz : (![0, 0] : Fin 2 → ℕ) = fun _ => 0 := funext fun a => by fin_cases a <;> rfl

def xPts (c : Dev nD) : sProp 𝕄 := (xM.view.loc (c : Thread nD τ)) ↦{fullShare} (xs m c : Buf (Elt F) (xM.view.loc (c : Thread nD τ)))
def wPts (c : Dev nD) : sProp 𝕄 := (wM.view.loc (c : Thread nD τ)) ↦{fullShare} (ws m c : Buf (Elt F) (wM.view.loc (c : Thread nD τ)))
def wbPts (c : Dev nD) : sProp 𝕄 := (wbfM.view.loc (c : Thread nD τ)) ↦{fullShare} (ws m c : Buf (Elt F) (wbfM.view.loc (c : Thread nD τ)))
def wbRaw (c : Dev nD) : sProp 𝕄 := iprop(∃ f : Buf (Elt F) (wbfM.view.loc (c : Thread nD τ)), (wbfM.view.loc (c : Thread nD τ)) ↦{fullShare} f)

/-- One half of the block of `x` loaded. -/
theorem wp_load_x (c : Dev nD) (h : Fin 2) (off : Fin 2 → ℕ) (inb : ∀ a, off a + S256x4096.size a ≤ S512x4096.size a) (hoff : off = ![256 * h.val, 0])
    {hl : xM.view.LoadsAt (Rect.unit (s := S512x4096) off S256x4096.size inb).toLoadRect} {α : Type} {Q : α → sProp 𝕄}
    {k : ((Rect.unit (s := S512x4096) off S256x4096.size inb).toLoadRect.shape.Idx → Elt F .bf16) → Prog (TpuEff nD τ sig (Elt F) Λ₀ .tc) α} :
    xPts m c ⊢ iprop((xPts m c -∗ wp frame (wpE (defs₀ (F := F)) 𝒱₀ (c : Thread nD τ) none) Set.univ (k (xh m c h)) Q)
      -∗ wp frame (wpE (defs₀ (F := F)) 𝒱₀ (c : Thread nD τ) none) Set.univ
        (.op (.load xM (Rect.unit (s := S512x4096) off S256x4096.size inb).toLoadRect hl) k) Q) := by
  subst hoff
  unfold xPts
  iintro H Hk
  iapply (wp_load 𝒱₀ (c : Thread nD τ) none Set.univ (m := xM) (Finset.subset_univ _)) $$ H
  iintro H
  rw [show xM.view.readAt (Elt F) (Rect.unit (s := S512x4096) ![256 * h.val, 0] S256x4096.size inb).toLoadRect (xs m c) = xh m c h from rfl]
  iapply Hk
  iexact H

/-- What is stored to an own slot is its half-block. -/
theorem own_store (c : Dev nD) (h : Fin 2) :
    shapeCast S1x256x4096 (shapeCast S256x4096 (xh m c h) shapeCasts_S256x4096_S256x4096) shapeCasts_S256x4096_S1x256x4096 = lv1 m c (own h) := by
  rw [shapeCast_self]; rfl

/-- What a slot's layer casts to is its half-block. -/
theorem unlayer (c : Dev nD) (s : Slot) : shapeCast S256x4096 (lv1 m c s) shapeCasts_S1x256x4096_S256x4096 = V m c s := by
  unfold lv1; rw [shapeCast_shapeCast]

/-- The product of the layer loaded. -/
theorem pay_mm (c : Dev nD) (s : Slot) :
    matmul dot_S256x4096_S4096x256_S256x256_1_0_0_1_n_n none (shapeCast S256x4096 (lv1 m c s) shapeCasts_S1x256x4096_S256x4096) (ws m c)
      (constant S256x256 .f32 0x00000000#32) = prod m c s := by
  rw [unlayer]; rfl

omit [FloatOps F] in
theorem read_w (f : (cc0_stg1_0 : Ref sig .tc).ty.Contents (Elt F)) :
    wM.view.readAt (Elt F) (Rect.unit (s := S4096x256) ![0, 0] S4096x256.size inb_S4096x256_S4096x256_0_0).toLoadRect f = f :=
  Memref.readAt_unit_zero (Elt F) cc0_stg1_0 hz _ f
omit [FloatOps F] in
theorem read_wb (f : (cc0_scratch1 : Ref sig .tc).ty.Contents (Elt F)) :
    wbfM.view.readAt (Elt F) (Rect.unit (s := S4096x256) ![0, 0] S4096x256.size inb_S4096x256_S4096x256_0_0).toLoadRect f = f :=
  Memref.readAt_unit_zero (Elt F) cc0_scratch1 hz _ f
omit [FloatOps F] in
theorem write_wb (f w : (cc0_scratch1 : Ref sig .tc).ty.Contents (Elt F)) :
    (wbfM.access (Rect.unit (s := S4096x256) ![0, 0] S4096x256.size inb_S4096x256_S4096x256_0_0) : View sig .tc _ _ _).write (Elt F) f w Finset.univ = w :=
  Memref.write_access_unit_zero_univ (Elt F) cc0_scratch1 hz _ f w

abbrev wR : Rect S4096x256 := Rect.unit (s := S4096x256) ![0, 0] S4096x256.size inb_S4096x256_S4096x256_0_0

theorem wp_load_w (c : Dev nD) {hl : wM.view.LoadsAt wR.toLoadRect} {α : Type} {Q : α → sProp 𝕄}
    {k : (wR.toLoadRect.shape.Idx → Elt F .bf16) → Prog (TpuEff nD τ sig (Elt F) Λ₀ .tc) α} :
    wPts m c ⊢ iprop((wPts m c -∗ wp frame (wpE (defs₀ (F := F)) 𝒱₀ (c : Thread nD τ) none) Set.univ (k (ws m c)) Q)
      -∗ wp frame (wpE (defs₀ (F := F)) 𝒱₀ (c : Thread nD τ) none) Set.univ (.op (.load wM wR.toLoadRect hl) k) Q) := by
  unfold wPts
  iintro H Hk
  iapply (wp_load 𝒱₀ (c : Thread nD τ) none Set.univ (m := wM) (Finset.subset_univ _)) $$ H
  iintro H
  rw [read_w]
  iapply Hk
  iexact H

theorem wp_load_wb_raw (c : Dev nD) {hl : wbfM.view.LoadsAt wR.toLoadRect} {α : Type} {Q : α → sProp 𝕄}
    {k : (wR.toLoadRect.shape.Idx → Elt F .bf16) → Prog (TpuEff nD τ sig (Elt F) Λ₀ .tc) α} :
    wbRaw c ⊢ iprop((∀ v, wbRaw c -∗ wp frame (wpE (defs₀ (F := F)) 𝒱₀ (c : Thread nD τ) none) Set.univ (k v) Q)
      -∗ wp frame (wpE (defs₀ (F := F)) 𝒱₀ (c : Thread nD τ) none) Set.univ (.op (.load wbfM wR.toLoadRect hl) k) Q) := by
  unfold wbRaw
  iintro ⟨%f, H⟩ Hk
  iapply (wp_load 𝒱₀ (c : Thread nD τ) none Set.univ (m := wbfM) (Finset.subset_univ _)) $$ H
  iintro H
  iapply Hk
  iexists f; iexact H

theorem wp_load_wb (c : Dev nD) {hl : wbfM.view.LoadsAt wR.toLoadRect} {α : Type} {Q : α → sProp 𝕄}
    {k : (wR.toLoadRect.shape.Idx → Elt F .bf16) → Prog (TpuEff nD τ sig (Elt F) Λ₀ .tc) α} :
    wbPts m c ⊢ iprop((wbPts m c -∗ wp frame (wpE (defs₀ (F := F)) 𝒱₀ (c : Thread nD τ) none) Set.univ (k (ws m c)) Q)
      -∗ wp frame (wpE (defs₀ (F := F)) 𝒱₀ (c : Thread nD τ) none) Set.univ (.op (.load wbfM wR.toLoadRect hl) k) Q) := by
  unfold wbPts
  iintro H Hk
  iapply (wp_load 𝒱₀ (c : Thread nD τ) none Set.univ (m := wbfM) (Finset.subset_univ _)) $$ H
  iintro H
  rw [read_wb]
  iapply Hk
  iexact H

theorem wp_store_wb (c : Dev nD) {w : wR.shape.Idx → Elt F .bf16} (hw : w = ws m c)
    {hx : (wbfM.access wR).Stores Finset.univ} {hm : (Finset.univ : Finset wR.shape.Idx) = Finset.univ ∨ ∀ a, wR.stride a = 1}
    {α : Type} {Q : α → sProp 𝕄} {k : PUnit → Prog (TpuEff nD τ sig (Elt F) Λ₀ .tc) α} :
    wbRaw c ⊢ iprop((wbPts m c -∗ wp frame (wpE (defs₀ (F := F)) 𝒱₀ (c : Thread nD τ) none) Set.univ (k ⟨⟩) Q)
      -∗ wp frame (wpE (defs₀ (F := F)) 𝒱₀ (c : Thread nD τ) none) Set.univ (.op (.store wbfM wR w Finset.univ hx hm) k) Q) := by
  subst hw
  unfold wbRaw wbPts
  iintro ⟨%f, H⟩ Hk
  iapply (wp_store 𝒱₀ (c : Thread nD τ) none Set.univ (m := wbfM) (r := wR) (Mk := Finset.univ) (S := Finset.univ) (Finset.subset_univ _)) $$ H
  iintro H
  iapply Hk
  iapply (show ((wbfM.access wR).loc (c : Thread nD τ) ↦{fullShare} _ : sProp 𝕄) ⊢ _ from Entails.of_eq (congrArg _ (write_wb f (ws m c)))) $$ H

end Cert.Mesh

end
-- ==== Proof.Script.lean ====
/-
The order in which a device sends, fills and awaits, as a list for each parity, and the state it is in after each entry.

That every entry finds what it needs — the channel unsent, the source's share at hand, the waits in the order of the levels —
is decided once for all entries.
-/
module

public import proofs.«01_k».proof.Proof.Out

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## The entries -/

/-- Send on a channel, fill an own slot, await an arrival, await a departure. -/
inductive Act
  | send (k : Chan)
  | fill (h : Fin 2)
  | recv (k : Chan)
  | back (k : Chan)

open Act in
/-- The entries, at an even place; -/
def evenScript : List Act :=
  [send (cw 0), send (ccw 1), send (par 0), fill 1, send (cw 1), send (ccw 0), send (par 1),
   recv (cw 0), send (cw 2), send (par 2), recv (ccw 0), send (ccw 2), recv (par 0),
   recv (cw 1), send (cw 3), send (par 3), recv (ccw 1), send (ccw 3), recv (par 1),
   recv (cw 2), recv (ccw 2), send (ccw 4), recv (par 2), recv (cw 3), recv (ccw 3), send (ccw 5), recv (par 3), recv (cw 4), recv (cw 5),
   back (cw 0), back (ccw 1), back (par 0), back (cw 1), back (ccw 0), back (par 1), back (cw 2), back (par 2), back (ccw 2),
   back (cw 3), back (par 3), back (ccw 3), back (ccw 4), back (ccw 5)]
open Act in
/-- at an odd place. -/
def oddScript : List Act :=
  [send (cw 0), send (ccw 1), send (par 0), fill 1, send (cw 1), send (ccw 0), send (par 1),
   recv (cw 0), send (cw 2), recv (ccw 0), send (ccw 2), send (par 3), recv (par 0),
   recv (cw 1), send (cw 3), recv (ccw 1), send (ccw 3), send (par 2), recv (par 1),
   recv (cw 2), send (cw 4), recv (ccw 2), recv (par 2), recv (cw 3), send (cw 5), recv (ccw 3), recv (par 3), recv (ccw 4), recv (ccw 5),
   back (cw 0), back (ccw 1), back (par 0), back (cw 1), back (ccw 0), back (par 1), back (cw 2), back (ccw 2), back (par 3),
   back (cw 3), back (ccw 3), back (par 2), back (cw 4), back (cw 5)]
def script : Bool → List Act
  | true => evenScript
  | false => oddScript

/-! ## The sets -/

structure Sets where
  U : Finset Chan
  P : Finset (Bool × Chan)
  D : Finset (Bool × Chan)
  H : Finset (Slot × Fin 4)

/-- The arrivals a device of parity `b` awaits; -/
def arrivals (b : Bool) : Finset (Bool × Chan) := Finset.univ.filter fun x => (x.1 && live b x) = true
/-- the semaphores it never uses. -/
def dead (b : Bool) : Finset (Bool × Chan) := Finset.univ.filter fun x => live b x = false

/-- At the start nothing is sent, and the first own slot is filled. -/
def start₀ (b : Bool) : Sets := ⟨acts b, arrivals b, dead b, withSlot (own 0) ∅⟩

def Sets.next (b : Bool) (σ : Sets) : Act → Sets
  | .send k => ⟨σ.U.erase k, insert (false, k) σ.P, σ.D, σ.H.erase (src b k, fsh (fam k))⟩
  | .fill h => ⟨σ.U, σ.P, σ.D, withSlot (own h) σ.H⟩
  | .recv k => ⟨σ.U, σ.P.erase (true, k), insert (true, k) σ.D, withSlot (land k) σ.H⟩
  | .back k => ⟨σ.U, σ.P.erase (false, k), insert (false, k) σ.D, insert (src b k, fsh (fam k)) σ.H⟩

/-- The state after the first `n` entries. -/
def after (b : Bool) (n : ℕ) : Sets := ((script b).take n).foldl (Sets.next b) (start₀ b)

theorem after_succ {b : Bool} {n : ℕ} {a : Act} (h : (script b)[n]? = some a) : after b (n + 1) = (after b n).next b a := by
  unfold after; rw [List.take_add_one, h, List.foldl_append]; rfl

/-- What an entry needs. -/
def Sets.ok (b : Bool) (σ : Sets) : Act → Bool
  | .send k => active b k && decide (k ∈ σ.U) && decide ((false, k) ∉ σ.P) && decide ((src b k, fsh (fam k)) ∈ σ.H)
  | .fill h => decide (∀ i, (own h, i) ∉ σ.H)
  | .recv k => live b (true, k) && decide ((true, k) ∈ σ.P) && decide ((true, k) ∉ σ.D) && decide (∀ k' ∈ σ.U, level k < level k')
      && decide (∀ i, (land k, i) ∉ σ.H)
  | .back k => live b (false, k) && decide ((false, k) ∈ σ.P) && decide ((false, k) ∉ σ.D) && decide ((src b k, fsh (fam k)) ∉ σ.H)

theorem all_ok : ∀ (b : Bool) (n : Fin 43), ((script b)[n.val]?.map ((after b n.val).ok b)) = some true := by decide +kernel
theorem script_len : ∀ b, (script b).length = 43 := by decide

theorem ok_at {b : Bool} {n : ℕ} {a : Act} (h : (script b)[n]? = some a) : (after b n).ok b a = true := by
  have hn : n < 43 := by
    have := (List.getElem?_eq_some_iff.mp h).1
    rwa [script_len] at this
  have := all_ok b ⟨n, hn⟩
  rw [show (script b)[(⟨n, hn⟩ : Fin 43).val]? = some a from h] at this
  exact Option.some_inj.mp this

/-- At the end nothing is owed or awaited, every semaphore is at rest and every used slot's shares are all at hand. -/
theorem after_end : ∀ b, (after b 43).U = ∅ ∧ (after b 43).P = ∅ ∧ (after b 43).D = Finset.univ
    ∧ (after b 43).H = Finset.univ.filter (fun x => isUsed b x.1) := by
  intro b; cases b <;> exact ⟨by decide +kernel, by decide +kernel, by decide +kernel, by decide +kernel⟩

/-! ## The run -/

/-- The buffer `w` is copied to, before and after. -/
def wb (c : Dev nD) : Bool → sProp 𝕄
  | false => wbRaw c
  | true => wbPts m c

/-- The device after `n` entries, the slots of `T` multiplied; `w` copied or not. -/
def Run (c : Dev nD) (K : Cid → ℕ) (b : Bool) (n : ℕ) (w : Bool) (T : Finset Slot) : sProp 𝕄 :=
  iprop(S m c K (after b n).U (after b n).P (after b n).D (after b n).H ∗ wb m c w ∗ outs m c T)

section Steps
variable (K : Cid → ℕ) (c : Dev nD) {b : Bool} (hb : even c = b) (n : ℕ) {w : Bool} {T : Finset Slot}

include hb in
theorem run_send (k : Chan) (hk : (script b)[n]? = some (.send k)) (nn : Dev nD) (hn : nn = nbr (fam k) c)
    {src' dst' : Memref sig .tc .vmem S256x4096 .bf16} {qs qr : DmaSem sig}
    (hsrc : slotM (src b k) = src') (hdst : slotM (land k) = dst') (hqs : semOf (false, k) = qs) (hqr : semOf (true, k) = qr)
    {hsc : (dst' : Memref sig (Dev.tc nn : Thread nD τ).2.kind .vmem S256x4096 .bf16).view.ref.isScScratch = false}
    {hs : src'.view.WordExact} {hd : (dst' : Memref sig (Dev.tc nn : Thread nD τ).2.kind .vmem S256x4096 .bf16).view.WordExact}
    {hsem : DmaTarget.Typed .vmem (.dma qr) (.remote (Dev.tc nn : Thread nD τ) dst' (.dma qs) hsc)}
    {α : Type} {Q : α → sProp 𝕄} {kk : PUnit → Prog (TpuEff nD τ sig (Elt F) Λ₀ .tc) α} :
    Run m c K b n w T
      ⊢ iprop((Run m c K b (n + 1) w T -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma src' (.remote (Dev.tc nn : Thread nD τ) dst' (.dma qs) hsc) (.dma qr) hs hd hsem) kk) Q) := by
  have ho := ok_at hk
  simp only [Sets.ok, Bool.and_eq_true, decide_eq_true_eq] at ho
  unfold Run
  rw [after_succ hk]
  iintro ⟨HS, Hw, HO⟩ Hk
  iapply (step_send m K c nn hb k hn src' dst' qs qr hsrc hdst hqs hqr ho.1.1.1 ho.1.1.2 ho.1.2 ho.2) $$ HS
  iintro HS
  iapply Hk
  isplitl [HS]; · iexact HS
  isplitl [Hw] <;> iassumption

include hb in
theorem run_recv (k : Chan) (hk : (script b)[n]? = some (.recv k)) {q : DmaSem sig} (hq : semOf (true, k) = q)
    {s s' : Shape} {e e' : EltTy} {sp sp' : Space} {a : Memref sig .tc sp' s' e'} {κ' : Kind} {d : Memref sig κ' sp s e} {ha : a.view.WordExact} {hd : d.view.WordExact}
    (hN : d.view.dmaCredit = N) {α : Type} {Q : α → sProp 𝕄} {kk : PUnit → Prog (TpuEff nD τ sig (Elt F) Λ₀ .tc) α} :
    Run m c K b n w T
      ⊢ iprop((Run m c K b (n + 1) w T -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q a d ha hd) kk) Q) := by
  have ho := ok_at hk
  simp only [Sets.ok, Bool.and_eq_true, decide_eq_true_eq] at ho
  unfold Run
  rw [after_succ hk]
  iintro ⟨HS, Hw, HO⟩ Hk
  iapply (step_recv m K c hb k q hq ho.1.1.1.1 ho.1.1.1.2 ho.1.1.2 ho.1.2 ho.2 hN) $$ HS
  iintro HS
  iapply Hk
  isplitl [HS]; · iexact HS
  isplitl [Hw] <;> iassumption

include hb in
theorem run_back (k : Chan) (hk : (script b)[n]? = some (.back k)) {q : DmaSem sig} (hq : semOf (false, k) = q)
    {s s' : Shape} {e e' : EltTy} {sp sp' : Space} {a : Memref sig .tc sp' s' e'} {κ' : Kind} {d : Memref sig κ' sp s e} {ha : a.view.WordExact} {hd : d.view.WordExact}
    (hN : d.view.dmaCredit = N) {α : Type} {Q : α → sProp 𝕄} {kk : PUnit → Prog (TpuEff nD τ sig (Elt F) Λ₀ .tc) α} :
    Run m c K b n w T
      ⊢ iprop((Run m c K b (n + 1) w T -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 q a d ha hd) kk) Q) := by
  have ho := ok_at hk
  simp only [Sets.ok, Bool.and_eq_true, decide_eq_true_eq] at ho
  unfold Run
  rw [after_succ hk]
  iintro ⟨HS, Hw, HO⟩ Hk
  iapply (step_back m K c hb k q hq ho.1.1.1 ho.1.1.2 ho.1.2 ho.2 hN) $$ HS
  iintro HS
  iapply Hk
  isplitl [HS]; · iexact HS
  isplitl [Hw] <;> iassumption

/-- The second own slot filled: its half-block loaded, the slot loaded and overwritten. -/
theorem run_fill (hk : (script b)[n]? = some (.fill 1)) {hl hl' hx hm} {α : Type} {Q : α → sProp 𝕄} {kk : PUnit → Prog (TpuEff nD τ sig (Elt F) Λ₀ .tc) α}
    {p : Vec F S256x4096 .bf16 → Vec F S1x256x4096 .bf16}
    (hp : p = fun v => shapeCast S1x256x4096 (shapeCast S256x4096 v shapeCasts_S256x4096_S256x4096) shapeCasts_S256x4096_S1x256x4096) :
    iprop(Run m c K b n w T ∗ xPts m c ∗ raw c (own 1))
      ⊢ iprop((iprop(Run m c K b (n + 1) w T ∗ xPts m c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load xM (Rect.unit (s := S512x4096) ![256, 0] S256x4096.size inb_S512x4096_S256x4096_256_0).toLoadRect hl) fun v =>
              .op (.load ownM (Rect.unit (s := S2x256x4096) ![1, 0, 0] S1x256x4096.size inb_S2x256x4096_S1x256x4096_1_0_0).toLoadRect hl') fun _ =>
              .op (.store ownM (Rect.unit (s := S2x256x4096) ![1, 0, 0] S1x256x4096.size inb_S2x256x4096_S1x256x4096_1_0_0) (p v) Finset.univ hx hm) kk) Q) := by
  have ho := ok_at hk
  simp only [Sets.ok, decide_eq_true_eq] at ho
  subst hp
  unfold Run
  rw [after_succ hk]
  iintro ⟨⟨HS, Hw, HO⟩, Hx, Ho⟩ Hk
  iapply (wp_load_x m c 1 ![256, 0] _ rfl) $$ Hx
  iintro Hx
  iapply (wp_load_raw ownM _ _ c (own 1) rfl) $$ Ho
  iintro %v0 Ho
  iapply (wp_store_slot m ownM _ _ c (own 1) rfl (own_store m c 1)) $$ Ho
  iintro Ho
  iapply Hk
  isplitr [Hx]
  · isplitl [HS Ho]
    · iapply (step_fill m K c (own 1) ho)
      isplitl [Ho]
      · iexact Ho
      · iexact HS
    isplitl [Hw] <;> iassumption
  · iexact Hx

/-- `w` copied: loaded, the buffer loaded and overwritten. -/
theorem run_copy {hl hl' hx hm} {α : Type} {Q : α → sProp 𝕄} {kk : PUnit → Prog (TpuEff nD τ sig (Elt F) Λ₀ .tc) α}
    {p : Vec F S4096x256 .bf16 → Vec F S4096x256 .bf16}
    (hp : p = fun v => shapeCast S4096x256 (shapeCast S4096x256 v shapeCasts_S4096x256_S4096x256) shapeCasts_S4096x256_S4096x256) :
    iprop(Run m c K b n false T ∗ wPts m c)
      ⊢ iprop((iprop(Run m c K b n true T ∗ wPts m c) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load wM wR.toLoadRect hl) fun v => .op (.load wbfM wR.toLoadRect hl') fun _ =>
              .op (.store wbfM wR (p v) Finset.univ hx hm) kk) Q) := by
  subst hp
  unfold Run
  iintro ⟨⟨HS, Hw, HO⟩, Hx⟩ Hk
  iapply (wp_load_w m c) $$ Hx
  iintro Hx
  unfold wb
  iapply (wp_load_wb_raw c) $$ Hw
  iintro %v0 Hw
  iapply (wp_store_wb m c (by show shapeCast _ (shapeCast _ _ _) _ = _; rw [shapeCast_self, shapeCast_self])) $$ Hw
  iintro Hw
  iapply Hk
  isplitr [Hx]
  · isplitl [HS]; · iexact HS
    isplitl [Hw] <;> iassumption
  · iexact Hx

/-- A slot multiplied: the slot loaded, `w` loaded, the rows of the result loaded and overwritten with the product. -/
theorem run_mm (s : Slot) (hs : (s, 3) ∈ (after b n).H) {d : Fin 3 → ℕ} {A : Memref sig .tc .vmem ⟨3, d⟩ .bf16} {off : Fin 3 → ℕ}
    {inb : ∀ a, off a + S1x256x4096.size a ≤ (⟨3, d⟩ : Shape).size a} (hM : slotM s = layM A off inb)
    {o : Fin 2 → ℕ} (ho : o = rows c s) {inbo : ∀ a, o a + S256x256.size a ≤ S4096x256.size a} {hl hl' hl'' hx hm}
    {α : Type} {Q : α → sProp 𝕄} {kk : PUnit → Prog (TpuEff nD τ sig (Elt F) Λ₀ .tc) α}
    {p : Vec F S1x256x4096 .bf16 → Vec F S4096x256 .bf16 → Vec F S256x256 .f32}
    (hp : p = fun v v' => matmul dot_S256x4096_S4096x256_S256x256_1_0_0_1_n_n none (shapeCast S256x4096 v shapeCasts_S1x256x4096_S256x4096) v'
      (constant S256x256 .f32 0x00000000#32)) :
    Run m c K b n true T
      ⊢ iprop((Run m c K b n true (insert s T) -∗ wp frame (wpE (defs₀ (F := F)) 𝒱₀ (c : Thread nD τ) none) Set.univ (kk ⟨⟩) Q)
          -∗ wp frame (wpE (defs₀ (F := F)) 𝒱₀ (c : Thread nD τ) none) Set.univ
            (.op (.load A (layR off inb).toLoadRect hl) fun v => .op (.load wbfM wR.toLoadRect hl') fun v' =>
              .op (.load outM (Rect.unit (s := S4096x256) o S256x256.size inbo).toLoadRect hl'') fun _ =>
              .op (.store outM (Rect.unit (s := S4096x256) o S256x256.size inbo) (p v v') Finset.univ hx hm) kk) Q) := by
  subst hp
  unfold Run wb
  iintro ⟨HS, Hw, HO⟩ Hk
  iapply (step_load m K c s hs A off inb hM) $$ HS
  iintro HS
  iapply (wp_load_wb m c) $$ Hw
  iintro Hw
  iapply (wp_load_out m c T) $$ HO
  iintro %v0 HO
  iapply (wp_store_out m c T s o inbo ho (pay_mm m c s)) $$ HO
  iintro HO
  iapply Hk
  isplitl [HS]; · iexact HS
  isplitl [Hw] <;> iassumption

end Steps

end Cert.Mesh

end
-- ==== Proof.Start.lean ====
/-
The start of a device's run: the three barrier signals, each handing over the slots its receiver fills, the first own slot
filled, and the wait after which the device holds the slots it fills on its neighbours.
-/
module

public import proofs.«01_k».proof.Proof.Script

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

/-! ## Dealing the slots -/

omit [FloatOps F] in
theorem each_mono {I : Type} {s : Finset I} {Φ Ψ : I → sProp 𝕄} (h : ∀ i ∈ s, (BIBase.Entails (Φ i) (Ψ i))) :
    BIBase.Entails (bigSep s Φ) (bigSep s Ψ) := bigSep_mono h

/-- The landing slots of device `c` that nobody fills. -/
def spare (c : Dev nD) : sProp 𝕄 :=
  bigSep Finset.univ fun k : Chan => if active (!even c) k = true then iprop(emp) else raw c (land k)

theorem fam_cases (k : Chan) : fam k = 0 ∨ fam k = 1 ∨ fam k = 2 := by
  rcases k with t | t | t
  · exact Or.inl rfl
  · exact Or.inr (Or.inl rfl)
  · exact Or.inr (Or.inr rfl)

omit [FloatOps F] in
theorem barPay_sent (c : Dev nD) (e : Fin 3) : (barPay (nbr e c) (opp e) : sProp 𝕄)
    = bigSep Finset.univ fun k : Chan => if fam k = opp e ∧ active (!even c) k = true then raw c (land k) else iprop(emp) := by
  unfold barPay; rw [even_nbr, nbr_opp]

omit [FloatOps F] in
/-- What three alternatives by a channel's direction come to, taken together. -/
theorem by_fam (k : Chan) (p : Prop) [Decidable p] (R : Fin 3 → sProp 𝕄) (hp : p) :
    (iprop((if fam k = 0 ∧ p then R 0 else emp) ∗ (if fam k = 1 ∧ p then R 1 else emp) ∗ (if fam k = 2 ∧ p then R 2 else emp)) : sProp 𝕄)
      ⊣⊢ R (fam k) := by
  rcases fam_cases k with h | h | h <;> rw [h]
  · rw [if_pos ⟨rfl, hp⟩, if_neg (fun h => absurd h.1 (by decide)), if_neg (fun h => absurd h.1 (by decide))]
    constructor
    · iintro ⟨H, -, -⟩; iexact H
    · iintro H; isplitl [H]; · iexact H
      isplitr <;> iempintro
  · rw [if_neg (fun h => absurd h.1 (by decide)), if_pos ⟨rfl, hp⟩, if_neg (fun h => absurd h.1 (by decide))]
    constructor
    · iintro ⟨-, H, -⟩; iexact H
    · iintro H; isplitr; · iempintro
      isplitl [H]; · iexact H
      iempintro
  · rw [if_neg (fun h => absurd h.1 (by decide)), if_neg (fun h => absurd h.1 (by decide)), if_pos ⟨rfl, hp⟩]
    constructor
    · iintro ⟨-, -, H⟩; iexact H
    · iintro H; isplitr; · iempintro
      isplitr; · iempintro
      iexact H

omit [FloatOps F] in
/-- A device's landing slots, dealt to the three signals. -/
theorem hand_over (c : Dev nD) : (bigSep Finset.univ fun k : Chan => raw c (land k) : sProp 𝕄)
    ⊢ iprop((barPay (nbr 1 c) (opp 1) ∗ barPay (nbr 0 c) (opp 0) ∗ barPay (nbr 2 c) (opp 2)) ∗ spare c) := by
  rw [barPay_sent, barPay_sent, barPay_sent]
  unfold spare
  rw [← bigSep_sep', ← bigSep_sep', ← bigSep_sep']
  refine each_mono fun k _ => ?_
  by_cases h : active (!even c) k = true
  · rw [if_pos h]
    iintro H
    isplitl [H]; · iapply (by_fam k (active (!even c) k = true) (fun _ => raw c (land k)) h).2; iexact H
    iempintro
  · rw [if_neg (fun h' => h h'.2), if_neg (fun h' => h h'.2), if_neg (fun h' => h h'.2), if_neg h]
    iintro H
    isplitr
    · isplitr; · iempintro
      isplitr <;> iempintro
    iexact H

omit [FloatOps F] in
/-- The slots device `c` fills, gathered from the three signals it receives. -/
theorem take_in (c : Dev nD) : (iprop(barPay c 0 ∗ barPay c 1 ∗ barPay c 2) : sProp 𝕄)
    ⊢ bigSep (acts (even c)) fun k => raw (nbr (fam k) c) (land k) := by
  unfold barPay acts
  rw [← bigSep_sep', ← bigSep_sep', bigSep_filter]
  refine each_mono fun k _ => ?_
  by_cases h : active (even c) k = true
  · rw [if_pos h]
    exact (by_fam k (active (even c) k = true) (fun d => raw (nbr d c) (land k)) h).1
  · rw [if_neg (fun h' => h h'.2), if_neg (fun h' => h h'.2), if_neg (fun h' => h h'.2), if_neg h]
    iintro ⟨H, -, -⟩; iexact H

/-! ## Dealing the semaphores -/

/-- The departures a device of parity `b` awaits. -/
def departs (b : Bool) : Finset (Bool × Chan) := (acts b).map ⟨fun k => (false, k), fun _ _ h => (Prod.mk.inj h).2⟩

theorem all_sems : ∀ b, (Finset.univ : Finset (Bool × Chan)) = dead b ∪ (arrivals b ∪ departs b) := by
  intro b; cases b <;> decide +kernel
theorem dead_apart : ∀ b, Disjoint (dead b) (arrivals b ∪ departs b) := by intro b; cases b <;> decide +kernel
theorem arrivals_apart : ∀ b, Disjoint (arrivals b) (departs b) := by intro b; cases b <;> decide +kernel

omit [FloatOps F] in
/-- Anything about every semaphore of a device, by their use. -/
theorem by_use (b : Bool) (Φ : Bool × Chan → sProp 𝕄) : bigSep Finset.univ Φ
    = iprop(bigSep (dead b) Φ ∗ bigSep (arrivals b) Φ ∗ bigSep (acts b) fun k => Φ (false, k)) := by
  rw [all_sems b, sep_union (dead_apart b), sep_union (arrivals_apart b)]
  unfold departs
  rw [bigSep_map]; rfl

/-- The unused semaphores come to rest. -/
theorem close_dead (c : Dev nD) (K : Cid → ℕ) :
    iprop(recs m K ∗ bigSep (dead (even c)) fun x => atPos ER (dcell c x) 0 ∅ 0)
      ⊢ iprop(|={Set.univ}=> bigSep (dead (even c)) (rest c)) := by
  refine (bigSep_with_persistent (Ψ := fun x => iprop(|={Set.univ}=> rest c x)) fun x hx => ?_).trans (bigSep_fupd _ _)
  unfold recs
  iintro ⟨⟨#HI, -, -⟩, Hat⟩
  iapply (Rounds.cell_close ER (rd m) (Set.mem_univ (K (c, some x))) (fun h => h) (R := 0)
    (fun r _ => duties_dead m c x (Finset.mem_filter.mp hx).2 r))
  isplitr
  · iapply (inv_of m K (c, some x)); iexact HI
  · iexact Hat

/-! ## The start -/

/-- What device `c` starts from, at names `K`: the records, its three barrier duties, its positions at all its cells, the two
    duties of each channel it sends on, and its credits. -/
def ghost (K : Cid → ℕ) (c : Dev nD) : sProp 𝕄 :=
  iprop(recs m K
    ∗ (dutyTok ER (bar (nbr 1 c)) 0 (opp 1) ∗ dutyTok ER (bar (nbr 0 c)) 0 (opp 0) ∗ dutyTok ER (bar (nbr 2 c)) 0 (opp 2))
    ∗ atPos ER (bar c) 0 ∅ 0 ∗ (bigSep Finset.univ fun x => atPos ER (dcell c x) 0 ∅ 0)
    ∗ (bigSep (acts (even c)) fun k => iprop(dutyTok ER (dcell c (false, k)) 0 0 ∗ dutyTok ER (dcell (nbr (fam k) c) (true, k)) 0 0)))
def credits (c : Dev nD) : sProp 𝕄 :=
  iprop(cred (tallyAt (bar c) () 3) ∗ bigSep (arrivals (even c)) fun x => cred (tallyAt (dcell c x) () N))

/-- A barrier signal in direction `e`, handing over the slots its receiver fills. -/
theorem step_signal (K : Cid → ℕ) (c : Dev nD) (e : Fin 3) (n : Dev nD) (hn : n = nbr e c) (O O' : CellTallies nD τ sig Unit)
    (hO : O = O' + tallyAt (bar (nbr e c)) () 1) (W : Waits sig Unit)
    {α : Type} {Q : α → sProp 𝕄} {kk : PUnit → Prog (TpuEff nD τ sig (Elt F) Λ₀ .tc) α} :
    iprop(recs m K ∗ owes (c : Thread nD τ) O W ∗ dutyTok ER (bar (nbr e c)) 0 (opp e) ∗ barPay (nbr e c) (opp e))
      ⊢ iprop((owes (c : Thread nD τ) O' W -∗ wp frame (wpE (defs₀ (F := F)) 𝒱₀ (c : Thread nD τ) none) Set.univ (kk ⟨⟩) Q)
          -∗ wp frame (wpE (defs₀ (F := F)) 𝒱₀ (c : Thread nD τ) none) Set.univ (semSignalWord n barS 1#32 >>= kk) Q) := by
  subst hn hO
  simp only [semSignalWord, Prog.lift, Prog.bind_op, Prog.bind_ret]
  unfold recs
  iintro ⟨⟨#HI, #HR, #HL⟩, HO, Ht, Hp⟩ Hk
  iapply (Rounds.wp_signal 𝒱₀ ER (rd m) (c : Thread nD τ) none (dst := (nbr e c : Thread nD τ)) (κ := K (nbr e c, none))
      (d := opp e) (by rw [duties_bar]; exact Finset.mem_univ _) ((amount_bar m (nbr e c) (opp e)).trans (by decide)) () O' rfl)
    $$ [HO Ht Hp]
  · isplitr; · iapply (inv_of m K (nbr e c, none)); iexact HI
    isplitl [HO]; · iexact HO
    isplitl [Ht]; · iexact Ht
    isplitl [Hp]; · rw [payload_bar]; iexact Hp
    iapply (reached_of (nbr e c, none)); iexact HR
  iintro HO
  iapply Hk; iexact HO

/-- The barrier wait, before anything is sent. -/
theorem step_barrier (K : Cid → ℕ) (c : Dev nD) (W : Waits sig Unit)
    {α : Type} {Q : α → sProp 𝕄} {kk : PUnit → Prog (TpuEff nD τ sig (Elt F) Λ₀ .tc) α} :
    iprop(recs m K ∗ owes (c : Thread nD τ) (Ow c (acts (even c))) W ∗ cred (tallyAt (bar c) () 3) ∗ atPos ER (bar c) 0 ∅ 0)
      ⊢ iprop((iprop((∃ W, owes (c : Thread nD τ) (Ow c (acts (even c))) W) ∗ semVal (bar c) 0
              ∗ bigSep (acts (even c)) fun k => raw (nbr (fam k) c) (land k))
            -∗ wp frame (wpE (defs₀ (F := F)) 𝒱₀ (c : Thread nD τ) none) Set.univ (kk ⟨⟩) Q)
          -∗ wp frame (wpE (defs₀ (F := F)) 𝒱₀ (c : Thread nD τ) none) Set.univ (semWaitWord barS 3#32 >>= kk) Q) := by
  simp only [semWaitWord, Prog.lift, Prog.bind_op, Prog.bind_ret]
  unfold recs
  iintro ⟨⟨#HI, #HR, #HL⟩, HO, Hc, Hat⟩ Hk
  iapply (Rounds.wp_wait_rest_token 𝒱₀ ER (rd m) (c : Thread nD τ) none (κ := K (c, none))
      (wpE_semWait_eq 𝒱₀ (c : Thread nD τ) none Set.univ) (Set.mem_univ _) () (O := Ow c (acts (even c))) (W := W) (R := 0) (m := 0) (T := ∅)
      (by rw [expect_bar]; decide)) $$ [Hc HO Hat]
  · isplitr; · iapply (inv_of m K (c, none)); iexact HI
    isplitl [Hc]; · iexact Hc
    isplitl [HO]; · iexact HO
    isplitr; · iapply (mayWait c (.reg barS) 1 (Nat.le_refl 1) _ (fun k _ => level_pos k)); iexact HL
    iexact Hat
  iintro ⟨HO, Hat, -, Hpay⟩
  ihave Hp := ((Entails.of_eq (rest_bar m c)).trans (take_in c)) $$ Hpay
  imod (Rounds.cell_close ER (rd m) (Set.mem_univ (K (c, none))) (fun h => h) (R := 0 + 1) (duties_later m (bar c))) $$ [Hat] with Hz
  · isplitr; · iapply (inv_of m K (c, none)); iexact HI
    iexact Hat
  iapply Hk
  isplitl [HO]; · iexists _; iexact HO
  isplitl [Hz] <;> iassumption

/-- All of it together is the state the script starts from. -/
theorem start_script (K : Cid → ℕ) (c : Dev nD) :
    iprop(recs m K ∗ (∃ W : Waits sig Unit, owes (c : Thread nD τ) (Ow c (acts (even c))) W)
        ∗ (bigSep (acts (even c)) fun k => raw (nbr (fam k) c) (land k))
        ∗ (bigSep (acts (even c)) fun k => iprop(dutyTok ER (dcell c (false, k)) 0 0 ∗ dutyTok ER (dcell (nbr (fam k) c) (true, k)) 0 0))
        ∗ (bigSep (acts (even c)) fun k => atPos ER (dcell c (false, k)) 0 ∅ 0)
        ∗ (bigSep (arrivals (even c)) fun x => atPos ER (dcell c x) 0 ∅ 0)
        ∗ (bigSep (arrivals (even c)) fun x => cred (tallyAt (dcell c x) () N))
        ∗ bigSep (dead (even c)) (rest c) ∗ pt m c (own 0) fullShare ∗ wbRaw c ∗ outs m c ∅)
      ⊢ Run m c K (even c) 0 false ∅ := by
  have e : after (even c) 0 = start₀ (even c) := rfl
  unfold Run S wb
  rw [e]
  iintro ⟨HR, HO, Hraw, Htok, HatS, HatR, Hcr, HD, Hown, Hw, Hout⟩
  isplitr [Hw Hout]
  · isplitl [HR]; · iexact HR
    isplitl [HO]; · iexact HO
    isplitl [Hraw Htok HatS]
    · iapply (show iprop((bigSep (acts (even c)) fun k => iprop(dutyTok ER (dcell c (false, k)) 0 0 ∗ dutyTok ER (dcell (nbr (fam k) c) (true, k)) 0 0))
          ∗ (bigSep (acts (even c)) fun k => atPos ER (dcell c (false, k)) 0 ∅ 0) ∗ (bigSep (acts (even c)) fun k => raw (nbr (fam k) c) (land k)))
          ⊢ (bigSep (start₀ (even c)).U (unsent c) : sProp 𝕄) from by
        rw [← bigSep_sep', ← bigSep_sep']
        refine each_mono fun k _ => ?_
        unfold unsent
        iintro ⟨⟨H1, H2⟩, H3, H4⟩
        isplitl [H1]; · iexact H1
        isplitl [H2]; · iexact H2
        isplitl [H3] <;> iassumption)
      isplitl [Htok]; · iexact Htok
      isplitl [HatS] <;> iassumption
    isplitl [HatR Hcr]
    · iapply (show iprop((bigSep (arrivals (even c)) fun x => cred (tallyAt (dcell c x) () N)) ∗ bigSep (arrivals (even c)) fun x => atPos ER (dcell c x) 0 ∅ 0)
          ⊢ (bigSep (start₀ (even c)).P (pending c) : sProp 𝕄) from by rw [← bigSep_sep']; exact Entails.refl _)
      isplitl [Hcr] <;> iassumption
    isplitl [HD]; · iexact HD
    iapply (add_slot m c (own 0) ∅ (fun i => Finset.notMem_empty _))
    isplitl [Hown]; · iexact Hown
    rw [bigSep_empty]; iempintro
  · isplitl [Hw]; · iexact Hw
    iexact Hout

end Cert.Mesh

end
-- ==== Proof.Dats.lean ====
/-
What the launch gives one device and what it takes back.
-/
module

public import proofs.«01_k».proof.Proof.Start

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

variable (ρ : Dev nD → PrngReg)

/-! ## The end -/

omit [FloatOps F] in
/-- Anything about every element of a sum, by its two sides. -/
theorem sum_split {α β : Type} [Fintype α] [Fintype β] [DecidableEq α] [DecidableEq β] (Φ : α ⊕ β → sProp 𝕄) :
    bigSep Finset.univ Φ = iprop((bigSep Finset.univ fun a => Φ (Sum.inl a)) ∗ bigSep Finset.univ fun b => Φ (Sum.inr b)) := bigSep_univ_sum Φ

omit [FloatOps F] in
/-- A device's slots: the two of its own block, and the landing slots. -/
theorem slots_eq (Φ : Slot → sProp 𝕄) :
    bigSep Finset.univ Φ = iprop((Φ (own 0) ∗ Φ (own 1)) ∗ bigSep Finset.univ fun k : Chan => Φ (land k)) := by
  rw [sum_split, bigSep_univ_eq_bigSepL [(0 : Fin 2), 1] (by decide) (by decide)]
  rfl

/-- A device's slots at the end: every one whole again, at contents that no longer matter. -/
theorem slots_back (c : Dev nD) :
    iprop(bigSep (Finset.univ.filter fun x : Slot × Fin 4 => isUsed (even c) x.1) (piece m c) ∗ spare c)
      ⊢ (bigSep Finset.univ fun s : Slot => raw c s : sProp 𝕄) := by
  have h1 : ∀ s : Slot, (bigSep Finset.univ fun i : Fin 4 => if isUsed (even c) s = true then piece m c (s, i) else iprop(emp) : sProp 𝕄)
      ⊢ if isUsed (even c) s = true then raw c s else iprop(emp) := fun s => by
    by_cases h : isUsed (even c) s = true
    · simp only [if_pos h]
      refine BIBase.Entails.trans (pt_split m c s).2 ?_
      unfold pt raw
      iintro H; iexists _; iexact H
    · simp only [if_neg h]
      iintro -; iempintro
  rw [bigSep_filter, bigSep_univ_prod]
  unfold spare
  iintro ⟨H, Hs⟩
  ihave H := (each_mono fun (s : Slot) (_ : s ∈ Finset.univ) => h1 s) $$ H
  ihave H := (Entails.of_eq (slots_eq _)) $$ H
  icases H with ⟨Ho, Hl⟩
  iapply (Entails.of_eq (slots_eq fun s => raw c s).symm)
  isplitl [Ho]; · iexact Ho
  iapply (show iprop((bigSep Finset.univ fun k : Chan => if isUsed (even c) (land k) = true then raw c (land k) else iprop(emp))
      ∗ (bigSep Finset.univ fun k : Chan => if active (!even c) k = true then iprop(emp) else raw c (land k)))
      ⊢ (bigSep Finset.univ fun k : Chan => raw c (land k) : sProp 𝕄) from by
    refine BIBase.Entails.trans (Entails.of_eq (bigSep_sep' _ _ _).symm) ?_
    refine each_mono fun k _ => ?_
    show iprop((if active (!even c) k = true then raw c (land k) else iprop(emp)) ∗ (if active (!even c) k = true then iprop(emp) else raw c (land k))) ⊢ (raw c (land k) : sProp 𝕄)
    split
    · iintro ⟨H, -⟩; iexact H
    · iintro ⟨-, H⟩; iexact H)
  isplitl [Hl] <;> iassumption

/-- The end of the script. -/
theorem end_script (K : Cid → ℕ) (c : Dev nD) {b : Bool} (hb : even c = b) :
    iprop(Run m c K b 43 true (used b) ∗ spare c)
      ⊢ iprop((∃ W : Waits sig Unit, owes (c : Thread nD τ) 0 W) ∗ bigSep Finset.univ (rest c)
          ∗ ((bigSep Finset.univ fun s : Slot => raw c s) ∗ wbRaw c)
          ∗ (outM.view.loc (c : Thread nD τ) ↦{fullShare} (outAt m c : Buf (Elt F) (outM.view.loc (c : Thread nD τ))))) := by
  subst hb
  obtain ⟨hU, hP, hD, hH⟩ := after_end (even c)
  unfold Run S wb
  rw [hU, hP, hD, hH, Ow_empty]
  iintro ⟨⟨⟨-, HO, -, -, HD, HH⟩, Hw, Hout⟩, Hsp⟩
  isplitl [HO]; · iexact HO
  isplitl [HD]; · iexact HD
  isplitr [Hout]
  · isplitl [HH Hsp]
    · iapply (slots_back m c); isplitl [HH] <;> iassumption
    · unfold wbPts wbRaw; iexists _; iexact Hw
  · iapply (outs_final m c (used (even c)) (Finset.Subset.refl _)); iexact Hout

/-! ## The data of the launch -/

abbrev s₀ : MemSt nD τ sig (Elt F) := ⟨m, fun _ => 0, ρ⟩

theorem cfg0_N : cfg0.N = 1 := N_0
abbrev t₀ : Fin cfg0.N := t0_0

def start (c : Dev nD) : sProp 𝕄 := iprop((∃ K, ghost m K c) ∗ credits c)
/-- A device's scratch buffers: the slots and the copy of `w`. -/
def scratch (c : Dev nD) : sProp 𝕄 := iprop((bigSep Finset.univ fun s : Slot => raw c s) ∗ wbRaw c)
def Φ₀ (c : Dev nD) : sProp 𝕄 := iprop(start m c ∗ scratch c)
def Φ₁ (c : Dev nD) : sProp 𝕄 := iprop(semVal (bar c) 0 ∗ bigSep Finset.univ (rest c) ∗ scratch c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
    | ⟨1, _⟩ => ws m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ c ∗ (dats m ρ 0 c).owesAt () t₀.succ ∗ stg c cc0_stg0_0 (xs m c) ∗ stg c cc0_stg1_0 (ws m c) ∗ stg c cc0_stg2_0 (outAt m c))

set_option maxRecDepth 4000 in
/-- What the launch runs on a core. -/
theorem body_is : (defs₀ (F := F)) .tc cfg0.body (cfg0.bodyArgs t₀ (cfg0.slots t₀)) = cc0_body xM (Memref.isWhole_whole _) wM (Memref.isWhole_whole _) outM (Memref.isWhole_whole _) ownM (Memref.isWhole_whole _)
            wbfM (Memref.isWhole_whole _) cwM (Memref.isWhole_whole _) ccwM (Memref.isWhole_whole _) parM (Memref.isWhole_whole _)
            cc0_scratch5 cc0_scratch6 cc0_scratch7 cc0_scratch8 cc0_scratch9 cc0_scratch10 := rfl

/-- What one window's staging buffer is. -/
theorem stg0 (c : Dev nD) (X) : (owns (Ix := Unit) (Name := ℕ) (U := UU) (Lvl := ℕ) (c : Thread nD τ) (stage0_0 0) fullShare X : sProp 𝕄)
   = stg c cc0_stg0_0 X := owns_whole_eq _ _ _
theorem stg1 (c : Dev nD) (X) : (owns (Ix := Unit) (Name := ℕ) (U := UU) (Lvl := ℕ) (c : Thread nD τ) (stage0_1 0) fullShare X : sProp 𝕄)
   = stg c cc0_stg1_0 X := owns_whole_eq _ _ _
theorem stg2 (c : Dev nD) (X) : (owns (Ix := Unit) (Name := ℕ) (U := UU) (Lvl := ℕ) (c : Thread nD τ) (stage0_2 0) fullShare X : sProp 𝕄)
   = stg c cc0_stg2_0 X := owns_whole_eq _ _ _

theorem a1 (c : Dev nD) : (dats m ρ 0 c).Φ t₀.castSucc = Φ₀ m c := rfl
theorem a2 (c : Dev nD) : (dats m ρ 0 c).Φ t₀.succ = Φ₁ c := rfl
theorem after0 (c : Dev nD) : (dats m ρ 0 c).after (0 : Fin 3) t₀ = xs m c := rfl
theorem after1 (c : Dev nD) : (dats m ρ 0 c).after (1 : Fin 3) t₀ = ws m c := rfl
theorem after2 (c : Dev nD) : (dats m ρ 0 c).after (2 : Fin 3) t₀ = outAt m c := rfl

set_option maxRecDepth 4000 in
/-- A body that runs from `bodyPre` to `bodyPost` meets the launch's obligation. -/
theorem obligation_of (c : Dev nD)
    (h : bodyPre m ρ c ⊢ wp frame (wpE (defs₀ (F := F)) 𝒱₀ (c : Thread nD τ) none) Set.univ
      (cc0_body xM (Memref.isWhole_whole _) wM (Memref.isWhole_whole _) outM (Memref.isWhole_whole _) ownM (Memref.isWhole_whole _)
            wbfM (Memref.isWhole_whole _) cwM (Memref.isWhole_whole _) ccwM (Memref.isWhole_whole _) parM (Memref.isWhole_whole _)
            cc0_scratch5 cc0_scratch6 cc0_scratch7 cc0_scratch8 cc0_scratch9 cc0_scratch10) fun _ => bodyPost m ρ c) :
    Pipeline.BodyObligation (dats (F := F) m ρ 0 c) (defs₀ (F := F)) 𝒱₀ () Set.univ := fun t => by
  rw [fin_N0 t]
  have e : (bodyPost m ρ c : sProp 𝕄) = iprop((dats m ρ 0 c).Φ t₀.succ ∗ (dats m ρ 0 c).owesAt () t₀.succ
      ∗ bigSep Finset.univ fun w : Fin cfg0.W => owns (c : Thread nD τ) ((cfg0.win w).stage (cfg0.slots t₀ w)) fullShare ((dats m ρ 0 c).after w t₀)) := by
    rw [bigSep_W0]
    unfold bodyPost
    rw [← stg0, ← stg1, ← stg2, a2]
    rfl
  rw [e] at h
  have s0 : (fun d => stg c cc0_stg0_0 ((dats m ρ 0 c).before (0 : Fin 3) t₀ d)) = fun d => owns (c : Thread nD τ) (stage0_0 0) fullShare ((dats m ρ 0 c).before (0 : Fin 3) t₀ d) :=
    funext fun d => (stg0 c _).symm
  have s1 : (fun d => stg c cc0_stg1_0 ((dats m ρ 0 c).before (1 : Fin 3) t₀ d)) = fun d => owns (c : Thread nD τ) (stage0_1 0) fullShare ((dats m ρ 0 c).before (1 : Fin 3) t₀ d) :=
    funext fun d => (stg1 c _).symm
  have s2 : (fun d => stg c cc0_stg2_0 ((dats m ρ 0 c).before (2 : Fin 3) t₀ d)) = fun d => owns (c : Thread nD τ) (stage0_2 0) fullShare ((dats m ρ 0 c).before (2 : Fin 3) t₀ d) :=
    funext fun d => (stg2 c _).symm
  have e' : (bodyPre m ρ c : sProp 𝕄) = iprop((dats m ρ 0 c).Φ t₀.castSucc ∗ (dats m ρ 0 c).owesAt () t₀.castSucc
      ∗ bigSep Finset.univ fun w : Fin cfg0.W => iprop(∃ d, owns (c : Thread nD τ) ((cfg0.win w).stage (cfg0.slots t₀ w)) fullShare ((dats m ρ 0 c).before w t₀ d))) := by
    rw [bigSep_W0]
    unfold bodyPre
    rw [s0, s1, s2, a1]
  rw [e'] at h
  rw [body_is]
  refine BIBase.Entails.trans (Entails.of_eq rfl) (BIBase.Entails.trans h (Entails.of_eq ?_))
  congr 1

end Cert.Mesh

end
-- ==== Proof.Even.lean ====
/-
The branch of an even place, run through its sends, waits and products in the order of its script.
-/
module

public import proofs.«01_k».proof.Proof.Script

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

set_option maxRecDepth 8000 in
/-- The branch a device takes at an even place, up to its last wait. -/
theorem even_branch (K : Cid → ℕ) (c : Dev nD) (hb : even c = true) (h1 : k0_cond1 c = 1#1)
    (v2 v5 v11 v17 : BitVec 32) (v19 : BitVec 1) (v26 : BitVec 32) {ha0 : xM.IsWhole} {ha1 : wM.IsWhole} {ha2 : outM.IsWhole}
    {ha3 : ownM.IsWhole} {ha4 : wbfM.IsWhole} {ha5 : cwM.IsWhole} {ha6 : ccwM.IsWhole} {ha7 : parM.IsWhole}
    {α : Type} {Q : α → sProp 𝕄} {kk : PUnit → Prog (TpuEff nD τ sig (Elt F) Λ₀ .tc) α} :
    iprop(Run m c K true 0 false ∅ ∗ xPts m c ∗ raw c (own 1) ∗ wPts m c)
      ⊢ iprop((iprop(Run m c K true 42 true (used true) ∗ xPts m c ∗ wPts m c)
            -∗ wp frame (wpE (defs₀ (F := F)) 𝒱₀ (c : Thread nD τ) none) Set.univ (kk ⟨⟩) Q)
          -∗ wp frame (wpE (defs₀ (F := F)) 𝒱₀ (c : Thread nD τ) none) Set.univ
              (k0_part21 xM ha0 wM ha1 outM ha2 ownM ha3 wbfM ha4 cwM ha5 ccwM ha6 parM ha7
                cc0_scratch5 cc0_scratch6 cc0_scratch7 cc0_scratch8 cc0_scratch9 cc0_scratch10 c v2 v5 v11 v17 v19 v26 h1 >>= kk) Q) := by
  rw [k0_part21_eq_skeleton]
  unfold k0_part21_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.lift, Prog.bind_op, Prog.bind_ret, Prog.bind_assoc, Prog.pure_eq_ret]
  iintro ⟨H, Hx, Ho, Hw⟩ Hk
  iapply (run_send m K c hb 0 (cw 0) rfl ⟨k0_dev4 c, k0_dev4_lt c h1⟩ (Fin.ext (evenDev_eq 0 c hb)) rfl rfl rfl rfl) $$ H; iintro H
  iapply (run_send m K c hb 1 (ccw 1) rfl ⟨k0_dev5 c, k0_dev5_lt c h1⟩ (Fin.ext (evenDev_eq 1 c hb)) rfl rfl rfl rfl) $$ H; iintro H
  iapply (run_send m K c hb 2 (par 0) rfl ⟨k0_dev6 c, k0_dev6_lt c h1⟩ (Fin.ext (evenDev_eq 2 c hb)) rfl rfl rfl rfl) $$ H; iintro H
  iapply (run_fill m K c (b := true) 3 rfl rfl) $$ [H Hx Ho]
  · isplitl [H]; · iexact H
    isplitl [Hx] <;> iassumption
  iintro ⟨H, Hx⟩
  iapply (run_send m K c hb 4 (cw 1) rfl ⟨k0_dev7 c, k0_dev7_lt c h1⟩ (Fin.ext (evenDev_eq 3 c hb)) rfl rfl rfl rfl) $$ H; iintro H
  iapply (run_send m K c hb 5 (ccw 0) rfl ⟨k0_dev8 c, k0_dev8_lt c h1⟩ (Fin.ext (evenDev_eq 4 c hb)) rfl rfl rfl rfl) $$ H; iintro H
  iapply (run_send m K c hb 6 (par 1) rfl ⟨k0_dev9 c, k0_dev9_lt c h1⟩ (Fin.ext (evenDev_eq 5 c hb)) rfl rfl rfl rfl) $$ H; iintro H
  iapply (run_copy m K c (b := true) 7 rfl) $$ [H Hw]
  · isplitl [H] <;> iassumption
  iintro ⟨H, Hw⟩
  iapply (run_mm m K c (b := true) 7 (own 0) (by decide +kernel) rfl (evenOff_eq 0 c hb) rfl) $$ H; iintro H
  iapply (run_mm m K c (b := true) 7 (own 1) (by decide +kernel) rfl (evenOff_eq 1 c hb) rfl) $$ H; iintro H
  iapply (run_recv m K c hb 7 (cw 0) rfl rfl (credit_slot (land (cw 0)))) $$ H; iintro H
  iapply (run_send m K c hb 8 (cw 2) rfl ⟨k0_dev10 c, k0_dev10_lt c h1⟩ (Fin.ext (evenDev_eq 6 c hb)) rfl rfl rfl rfl) $$ H; iintro H
  iapply (run_send m K c hb 9 (par 2) rfl ⟨k0_dev11 c, k0_dev11_lt c h1⟩ (Fin.ext (evenDev_eq 7 c hb)) rfl rfl rfl rfl) $$ H; iintro H
  iapply (run_mm m K c (b := true) 10 (land (cw 0)) (by decide +kernel) rfl (evenOff_eq 2 c hb) rfl) $$ H; iintro H
  iapply (run_recv m K c hb 10 (ccw 0) rfl rfl (credit_slot (land (ccw 0)))) $$ H; iintro H
  iapply (run_send m K c hb 11 (ccw 2) rfl ⟨k0_dev12 c, k0_dev12_lt c h1⟩ (Fin.ext (evenDev_eq 8 c hb)) rfl rfl rfl rfl) $$ H; iintro H
  iapply (run_mm m K c (b := true) 12 (land (ccw 0)) (by decide +kernel) rfl (evenOff_eq 3 c hb) rfl) $$ H; iintro H
  iapply (run_recv m K c hb 12 (par 0) rfl rfl (credit_slot (land (par 0)))) $$ H; iintro H
  iapply (run_mm m K c (b := true) 13 (land (par 0)) (by decide +kernel) rfl (evenOff_eq 4 c hb) rfl) $$ H; iintro H
  iapply (run_recv m K c hb 13 (cw 1) rfl rfl (credit_slot (land (cw 1)))) $$ H; iintro H
  iapply (run_send m K c hb 14 (cw 3) rfl ⟨k0_dev13 c, k0_dev13_lt c h1⟩ (Fin.ext (evenDev_eq 9 c hb)) rfl rfl rfl rfl) $$ H; iintro H
  iapply (run_send m K c hb 15 (par 3) rfl ⟨k0_dev14 c, k0_dev14_lt c h1⟩ (Fin.ext (evenDev_eq 10 c hb)) rfl rfl rfl rfl) $$ H; iintro H
  iapply (run_mm m K c (b := true) 16 (land (cw 1)) (by decide +kernel) rfl (evenOff_eq 5 c hb) rfl) $$ H; iintro H
  iapply (run_recv m K c hb 16 (ccw 1) rfl rfl (credit_slot (land (ccw 1)))) $$ H; iintro H
  iapply (run_send m K c hb 17 (ccw 3) rfl ⟨k0_dev15 c, k0_dev15_lt c h1⟩ (Fin.ext (evenDev_eq 11 c hb)) rfl rfl rfl rfl) $$ H; iintro H
  iapply (run_mm m K c (b := true) 18 (land (ccw 1)) (by decide +kernel) rfl (evenOff_eq 6 c hb) rfl) $$ H; iintro H
  iapply (run_recv m K c hb 18 (par 1) rfl rfl (credit_slot (land (par 1)))) $$ H; iintro H
  rw [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold k0_part11_skel k0_part12_skel k0_part13_skel k0_part14_skel k0_part15_skel k0_part16_skel k0_part17_skel k0_part18_skel k0_part19_skel k0_part20_skel
  simp only [Prog.lift, Prog.bind_op, Prog.bind_ret, Prog.bind_assoc, Prog.pure_eq_ret]
  iapply (run_mm m K c (b := true) 19 (land (par 1)) (by decide +kernel) rfl (evenOff_eq 7 c hb) rfl) $$ H; iintro H
  iapply (run_recv m K c hb 19 (cw 2) rfl rfl (credit_slot (land (cw 2)))) $$ H; iintro H
  iapply (run_mm m K c (b := true) 20 (land (cw 2)) (by decide +kernel) rfl (evenOff_eq 8 c hb) rfl) $$ H; iintro H
  iapply (run_recv m K c hb 20 (ccw 2) rfl rfl (credit_slot (land (ccw 2)))) $$ H; iintro H
  iapply (run_send m K c hb 21 (ccw 4) rfl ⟨k0_dev16 c, k0_dev16_lt c h1⟩ (Fin.ext (evenDev_eq 12 c hb)) rfl rfl rfl rfl) $$ H; iintro H
  iapply (run_mm m K c (b := true) 22 (land (ccw 2)) (by decide +kernel) rfl (evenOff_eq 9 c hb) rfl) $$ H; iintro H
  iapply (run_recv m K c hb 22 (par 2) rfl rfl (credit_slot (land (par 2)))) $$ H; iintro H
  iapply (run_mm m K c (b := true) 23 (land (par 2)) (by decide +kernel) rfl (evenOff_eq 10 c hb) rfl) $$ H; iintro H
  iapply (run_recv m K c hb 23 (cw 3) rfl rfl (credit_slot (land (cw 3)))) $$ H; iintro H
  iapply (run_mm m K c (b := true) 24 (land (cw 3)) (by decide +kernel) rfl (evenOff_eq 11 c hb) rfl) $$ H; iintro H
  iapply (run_recv m K c hb 24 (ccw 3) rfl rfl (credit_slot (land (ccw 3)))) $$ H; iintro H
  iapply (run_send m K c hb 25 (ccw 5) rfl ⟨k0_dev17 c, k0_dev17_lt c h1⟩ (Fin.ext (evenDev_eq 13 c hb)) rfl rfl rfl rfl) $$ H; iintro H
  iapply (run_mm m K c (b := true) 26 (land (ccw 3)) (by decide +kernel) rfl (evenOff_eq 12 c hb) rfl) $$ H; iintro H
  iapply (run_recv m K c hb 26 (par 3) rfl rfl (credit_slot (land (par 3)))) $$ H; iintro H
  iapply (run_mm m K c (b := true) 27 (land (par 3)) (by decide +kernel) rfl (evenOff_eq 13 c hb) rfl) $$ H; iintro H
  iapply (run_recv m K c hb 27 (cw 4) rfl rfl (credit_slot (land (cw 4)))) $$ H; iintro H
  iapply (run_mm m K c (b := true) 28 (land (cw 4)) (by decide +kernel) rfl (evenOff_eq 14 c hb) rfl) $$ H; iintro H
  iapply (run_recv m K c hb 28 (cw 5) rfl rfl (credit_slot (land (cw 5)))) $$ H; iintro H
  iapply (run_mm m K c (b := true) 29 (land (cw 5)) (by decide +kernel) rfl (evenOff_eq 15 c hb) rfl) $$ H; iintro H
  iapply (run_back m K c hb 29 (cw 0) rfl rfl (credit_slot (src true (cw 0)))) $$ H; iintro H
  iapply (run_back m K c hb 30 (ccw 1) rfl rfl (credit_slot (src true (ccw 1)))) $$ H; iintro H
  iapply (run_back m K c hb 31 (par 0) rfl rfl (credit_slot (src true (par 0)))) $$ H; iintro H
  iapply (run_back m K c hb 32 (cw 1) rfl rfl (credit_slot (src true (cw 1)))) $$ H; iintro H
  iapply (run_back m K c hb 33 (ccw 0) rfl rfl (credit_slot (src true (ccw 0)))) $$ H; iintro H
  iapply (run_back m K c hb 34 (par 1) rfl rfl (credit_slot (src true (par 1)))) $$ H; iintro H
  iapply (run_back m K c hb 35 (cw 2) rfl rfl (credit_slot (src true (cw 2)))) $$ H; iintro H
  iapply (run_back m K c hb 36 (par 2) rfl rfl (credit_slot (src true (par 2)))) $$ H; iintro H
  iapply (run_back m K c hb 37 (ccw 2) rfl rfl (credit_slot (src true (ccw 2)))) $$ H; iintro H
  iapply (run_back m K c hb 38 (cw 3) rfl rfl (credit_slot (src true (cw 3)))) $$ H; iintro H
  iapply (run_back m K c hb 39 (par 3) rfl rfl (credit_slot (src true (par 3)))) $$ H; iintro H
  iapply (run_back m K c hb 40 (ccw 3) rfl rfl (credit_slot (src true (ccw 3)))) $$ H; iintro H
  iapply (run_back m K c hb 41 (ccw 4) rfl rfl (credit_slot (src true (ccw 4)))) $$ H; iintro H
  rw [show used true = ([land (cw 5), land (cw 4), land (par 3), land (ccw 3), land (cw 3), land (par 2), land (ccw 2), land (cw 2), land (par 1), land (ccw 1), land (cw 1), land (par 0), land (ccw 0), land (cw 0), own 1, own 0] : List Slot).foldr insert ∅ from by decide +kernel]
  iapply Hk
  isplitl [H]; · iexact H
  isplitl [Hx] <;> iassumption

end Cert.Mesh

end
-- ==== Proof.Odd.lean ====
/-
The branch of an odd place, run through its sends, waits and products in the order of its script.
-/
module

public import proofs.«01_k».proof.Proof.Script

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

set_option maxRecDepth 8000 in
/-- The branch a device takes at an odd place, up to its last wait. -/
theorem odd_branch (K : Cid → ℕ) (c : Dev nD) (hb : even c = false) (h2 : k0_cond2 c = 1#1)
    (v2 v5 v11 v17 : BitVec 32) (v19 : BitVec 1) (v26 : BitVec 32) {ha0 : xM.IsWhole} {ha1 : wM.IsWhole} {ha2 : outM.IsWhole}
    {ha3 : ownM.IsWhole} {ha4 : wbfM.IsWhole} {ha5 : cwM.IsWhole} {ha6 : ccwM.IsWhole} {ha7 : parM.IsWhole}
    {α : Type} {Q : α → sProp 𝕄} {kk : PUnit → Prog (TpuEff nD τ sig (Elt F) Λ₀ .tc) α} :
    iprop(Run m c K false 0 false ∅ ∗ xPts m c ∗ raw c (own 1) ∗ wPts m c)
      ⊢ iprop((iprop(Run m c K false 42 true (used false) ∗ xPts m c ∗ wPts m c)
            -∗ wp frame (wpE (defs₀ (F := F)) 𝒱₀ (c : Thread nD τ) none) Set.univ (kk ⟨⟩) Q)
          -∗ wp frame (wpE (defs₀ (F := F)) 𝒱₀ (c : Thread nD τ) none) Set.univ
              (k0_part42 xM ha0 wM ha1 outM ha2 ownM ha3 wbfM ha4 cwM ha5 ccwM ha6 parM ha7
                cc0_scratch5 cc0_scratch6 cc0_scratch7 cc0_scratch8 cc0_scratch9 cc0_scratch10 c v2 v5 v11 v17 v19 v26 h2 >>= kk) Q) := by
  rw [k0_part42_eq_skeleton]
  unfold k0_part42_skel
  rw [k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold k0_part22_skel k0_part23_skel k0_part24_skel k0_part25_skel k0_part26_skel k0_part27_skel k0_part28_skel k0_part29_skel k0_part30_skel k0_part31_skel
  simp only [Prog.lift, Prog.bind_op, Prog.bind_ret, Prog.bind_assoc, Prog.pure_eq_ret]
  iintro ⟨H, Hx, Ho, Hw⟩ Hk
  iapply (run_send m K c hb 0 (cw 0) rfl ⟨k0_dev18 c, k0_dev18_lt c h2⟩ (Fin.ext (oddDev_eq 0 c hb)) rfl rfl rfl rfl) $$ H; iintro H
  iapply (run_send m K c hb 1 (ccw 1) rfl ⟨k0_dev19 c, k0_dev19_lt c h2⟩ (Fin.ext (oddDev_eq 1 c hb)) rfl rfl rfl rfl) $$ H; iintro H
  iapply (run_send m K c hb 2 (par 0) rfl ⟨k0_dev20 c, k0_dev20_lt c h2⟩ (Fin.ext (oddDev_eq 2 c hb)) rfl rfl rfl rfl) $$ H; iintro H
  iapply (run_fill m K c (b := false) 3 rfl rfl) $$ [H Hx Ho]
  · isplitl [H]; · iexact H
    isplitl [Hx] <;> iassumption
  iintro ⟨H, Hx⟩
  iapply (run_send m K c hb 4 (cw 1) rfl ⟨k0_dev21 c, k0_dev21_lt c h2⟩ (Fin.ext (oddDev_eq 3 c hb)) rfl rfl rfl rfl) $$ H; iintro H
  iapply (run_send m K c hb 5 (ccw 0) rfl ⟨k0_dev22 c, k0_dev22_lt c h2⟩ (Fin.ext (oddDev_eq 4 c hb)) rfl rfl rfl rfl) $$ H; iintro H
  iapply (run_send m K c hb 6 (par 1) rfl ⟨k0_dev23 c, k0_dev23_lt c h2⟩ (Fin.ext (oddDev_eq 5 c hb)) rfl rfl rfl rfl) $$ H; iintro H
  iapply (run_copy m K c (b := false) 7 rfl) $$ [H Hw]
  · isplitl [H] <;> iassumption
  iintro ⟨H, Hw⟩
  iapply (run_mm m K c (b := false) 7 (own 0) (by decide +kernel) rfl (oddOff_eq 0 c hb) rfl) $$ H; iintro H
  iapply (run_mm m K c (b := false) 7 (own 1) (by decide +kernel) rfl (oddOff_eq 1 c hb) rfl) $$ H; iintro H
  iapply (run_recv m K c hb 7 (cw 0) rfl rfl (credit_slot (land (cw 0)))) $$ H; iintro H
  iapply (run_send m K c hb 8 (cw 2) rfl ⟨k0_dev24 c, k0_dev24_lt c h2⟩ (Fin.ext (oddDev_eq 6 c hb)) rfl rfl rfl rfl) $$ H; iintro H
  iapply (run_mm m K c (b := false) 9 (land (cw 0)) (by decide +kernel) rfl (oddOff_eq 2 c hb) rfl) $$ H; iintro H
  iapply (run_recv m K c hb 9 (ccw 0) rfl rfl (credit_slot (land (ccw 0)))) $$ H; iintro H
  iapply (run_send m K c hb 10 (ccw 2) rfl ⟨k0_dev25 c, k0_dev25_lt c h2⟩ (Fin.ext (oddDev_eq 7 c hb)) rfl rfl rfl rfl) $$ H; iintro H
  iapply (run_send m K c hb 11 (par 3) rfl ⟨k0_dev26 c, k0_dev26_lt c h2⟩ (Fin.ext (oddDev_eq 8 c hb)) rfl rfl rfl rfl) $$ H; iintro H
  iapply (run_mm m K c (b := false) 12 (land (ccw 0)) (by decide +kernel) rfl (oddOff_eq 3 c hb) rfl) $$ H; iintro H
  iapply (run_recv m K c hb 12 (par 0) rfl rfl (credit_slot (land (par 0)))) $$ H; iintro H
  iapply (run_mm m K c (b := false) 13 (land (par 0)) (by decide +kernel) rfl (oddOff_eq 4 c hb) rfl) $$ H; iintro H
  iapply (run_recv m K c hb 13 (cw 1) rfl rfl (credit_slot (land (cw 1)))) $$ H; iintro H
  iapply (run_send m K c hb 14 (cw 3) rfl ⟨k0_dev27 c, k0_dev27_lt c h2⟩ (Fin.ext (oddDev_eq 9 c hb)) rfl rfl rfl rfl) $$ H; iintro H
  iapply (run_mm m K c (b := false) 15 (land (cw 1)) (by decide +kernel) rfl (oddOff_eq 5 c hb) rfl) $$ H; iintro H
  iapply (run_recv m K c hb 15 (ccw 1) rfl rfl (credit_slot (land (ccw 1)))) $$ H; iintro H
  iapply (run_send m K c hb 16 (ccw 3) rfl ⟨k0_dev28 c, k0_dev28_lt c h2⟩ (Fin.ext (oddDev_eq 10 c hb)) rfl rfl rfl rfl) $$ H; iintro H
  iapply (run_send m K c hb 17 (par 2) rfl ⟨k0_dev29 c, k0_dev29_lt c h2⟩ (Fin.ext (oddDev_eq 11 c hb)) rfl rfl rfl rfl) $$ H; iintro H
  iapply (run_mm m K c (b := false) 18 (land (ccw 1)) (by decide +kernel) rfl (oddOff_eq 6 c hb) rfl) $$ H; iintro H
  iapply (run_recv m K c hb 18 (par 1) rfl rfl (credit_slot (land (par 1)))) $$ H; iintro H
  rw [k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton]
  unfold k0_part32_skel k0_part33_skel k0_part34_skel k0_part35_skel k0_part36_skel k0_part37_skel k0_part38_skel k0_part39_skel k0_part40_skel k0_part41_skel
  simp only [Prog.lift, Prog.bind_op, Prog.bind_ret, Prog.bind_assoc, Prog.pure_eq_ret]
  iapply (run_mm m K c (b := false) 19 (land (par 1)) (by decide +kernel) rfl (oddOff_eq 7 c hb) rfl) $$ H; iintro H
  iapply (run_recv m K c hb 19 (cw 2) rfl rfl (credit_slot (land (cw 2)))) $$ H; iintro H
  iapply (run_send m K c hb 20 (cw 4) rfl ⟨k0_dev30 c, k0_dev30_lt c h2⟩ (Fin.ext (oddDev_eq 12 c hb)) rfl rfl rfl rfl) $$ H; iintro H
  iapply (run_mm m K c (b := false) 21 (land (cw 2)) (by decide +kernel) rfl (oddOff_eq 8 c hb) rfl) $$ H; iintro H
  iapply (run_recv m K c hb 21 (ccw 2) rfl rfl (credit_slot (land (ccw 2)))) $$ H; iintro H
  iapply (run_mm m K c (b := false) 22 (land (ccw 2)) (by decide +kernel) rfl (oddOff_eq 9 c hb) rfl) $$ H; iintro H
  iapply (run_recv m K c hb 22 (par 2) rfl rfl (credit_slot (land (par 2)))) $$ H; iintro H
  iapply (run_mm m K c (b := false) 23 (land (par 2)) (by decide +kernel) rfl (oddOff_eq 10 c hb) rfl) $$ H; iintro H
  iapply (run_recv m K c hb 23 (cw 3) rfl rfl (credit_slot (land (cw 3)))) $$ H; iintro H
  iapply (run_send m K c hb 24 (cw 5) rfl ⟨k0_dev31 c, k0_dev31_lt c h2⟩ (Fin.ext (oddDev_eq 13 c hb)) rfl rfl rfl rfl) $$ H; iintro H
  iapply (run_mm m K c (b := false) 25 (land (cw 3)) (by decide +kernel) rfl (oddOff_eq 11 c hb) rfl) $$ H; iintro H
  iapply (run_recv m K c hb 25 (ccw 3) rfl rfl (credit_slot (land (ccw 3)))) $$ H; iintro H
  iapply (run_mm m K c (b := false) 26 (land (ccw 3)) (by decide +kernel) rfl (oddOff_eq 12 c hb) rfl) $$ H; iintro H
  iapply (run_recv m K c hb 26 (par 3) rfl rfl (credit_slot (land (par 3)))) $$ H; iintro H
  iapply (run_mm m K c (b := false) 27 (land (par 3)) (by decide +kernel) rfl (oddOff_eq 13 c hb) rfl) $$ H; iintro H
  iapply (run_recv m K c hb 27 (ccw 4) rfl rfl (credit_slot (land (ccw 4)))) $$ H; iintro H
  iapply (run_mm m K c (b := false) 28 (land (ccw 4)) (by decide +kernel) rfl (oddOff_eq 14 c hb) rfl) $$ H; iintro H
  iapply (run_recv m K c hb 28 (ccw 5) rfl rfl (credit_slot (land (ccw 5)))) $$ H; iintro H
  iapply (run_mm m K c (b := false) 29 (land (ccw 5)) (by decide +kernel) rfl (oddOff_eq 15 c hb) rfl) $$ H; iintro H
  iapply (run_back m K c hb 29 (cw 0) rfl rfl (credit_slot (src false (cw 0)))) $$ H; iintro H
  iapply (run_back m K c hb 30 (ccw 1) rfl rfl (credit_slot (src false (ccw 1)))) $$ H; iintro H
  iapply (run_back m K c hb 31 (par 0) rfl rfl (credit_slot (src false (par 0)))) $$ H; iintro H
  iapply (run_back m K c hb 32 (cw 1) rfl rfl (credit_slot (src false (cw 1)))) $$ H; iintro H
  iapply (run_back m K c hb 33 (ccw 0) rfl rfl (credit_slot (src false (ccw 0)))) $$ H; iintro H
  iapply (run_back m K c hb 34 (par 1) rfl rfl (credit_slot (src false (par 1)))) $$ H; iintro H
  iapply (run_back m K c hb 35 (cw 2) rfl rfl (credit_slot (src false (cw 2)))) $$ H; iintro H
  iapply (run_back m K c hb 36 (ccw 2) rfl rfl (credit_slot (src false (ccw 2)))) $$ H; iintro H
  iapply (run_back m K c hb 37 (par 3) rfl rfl (credit_slot (src false (par 3)))) $$ H; iintro H
  iapply (run_back m K c hb 38 (cw 3) rfl rfl (credit_slot (src false (cw 3)))) $$ H; iintro H
  iapply (run_back m K c hb 39 (ccw 3) rfl rfl (credit_slot (src false (ccw 3)))) $$ H; iintro H
  iapply (run_back m K c hb 40 (par 2) rfl rfl (credit_slot (src false (par 2)))) $$ H; iintro H
  iapply (run_back m K c hb 41 (cw 4) rfl rfl (credit_slot (src false (cw 4)))) $$ H; iintro H
  rw [show used false = ([land (ccw 5), land (ccw 4), land (par 3), land (ccw 3), land (cw 3), land (par 2), land (ccw 2), land (cw 2), land (par 1), land (ccw 1), land (cw 1), land (par 0), land (ccw 0), land (cw 0), own 1, own 0] : List Slot).foldr insert ∅ from by decide +kernel]
  iapply Hk
  isplitl [H]; · iexact H
  isplitl [Hx] <;> iassumption

end Cert.Mesh

end
-- ==== Proof.Body.lean ====
/-
One device's whole run, from what the launch gives it to what it gives back.
-/
module

public import proofs.«01_k».proof.Proof.Dats
public import proofs.«01_k».proof.Proof.Even
public import proofs.«01_k».proof.Proof.Odd

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

variable (ρ : Dev nD → PrngReg)

/-- What is left at the end is what the launch takes back. -/
theorem body_end (c : Dev nD) (K : Cid → ℕ) {b : Bool} (hb : even c = b) :
    iprop(Run m c K b 43 true (used b) ∗ spare c ∗ semVal (bar c) 0 ∗ xPts m c ∗ wPts m c) ⊢ bodyPost m ρ c := by
  unfold bodyPost Φ₁ scratch Pipeline.Dat.owesAt Pipeline.owesWithin
  rw [show (dats m ρ 0 c).owed t₀.succ = 0 from rfl]
  iintro ⟨H, Hsp, Hz, Hx, Hw⟩
  ihave H := (end_script m K c hb) $$ [H Hsp]
  · isplitl [H] <;> iassumption
  icases H with ⟨⟨%W, HO⟩, HD, Hscr, Hout⟩
  isplitl [Hz HD Hscr]
  · isplitl [Hz]; · iexact Hz
    isplitl [HD] <;> iassumption
  isplitl [HO]
  · iexists W
    isplitr; · ipureintro; exact fun _ _ => Or.inl trivial
    iexact HO
  isplitl [Hx]
  · iexists (xs m c); isplitr; · (ipureintro; rfl)
    iapply (show (xPts m c : sProp 𝕄) ⊢ ((c : Thread nD τ).loc cc0_stg0_0 ↦{fullShare} xs m c) from BIBase.Entails.rfl); iexact Hx
  isplitl [Hw]
  · iexists (ws m c); isplitr; · (ipureintro; rfl)
    iapply (show (wPts m c : sProp 𝕄) ⊢ ((c : Thread nD τ).loc cc0_stg1_0 ↦{fullShare} ws m c) from BIBase.Entails.rfl); iexact Hw
  iexists _; isplitr; · (ipureintro; rfl)
  iexact Hout

/-- A device's first stretch: it reads its place in the mesh and signals its left neighbour. -/
theorem enter (K : Cid → ℕ) (c : Dev nD) (W : Waits sig Unit) {β : Type}
    {kk : (Σ' (d0 : Dev nD) (v2 : BitVec 32) (v5 : BitVec 32) (v11 : BitVec 32) (v17 : BitVec 32) (v19 : BitVec 1) (v26 : BitVec 32) (v27 : Sems sig S_), BitVec 32)
      → Prog (TpuEff nD τ sig (Elt F) Λ₀ .tc) β} {Q : β → sProp 𝕄} {ha0 ha1 ha2 ha3 ha4 ha5 ha6 ha7} :
    iprop(recs m K ∗ owes (c : Thread nD τ) (O₀ c) W ∗ dutyTok ER (bar (nbr 1 c)) 0 (opp 1) ∗ barPay (nbr 1 c) (opp 1))
      ⊢ iprop((∀ v2 v5 v11 v17 v19 v26 v30, owes (c : Thread nD τ) (Ob1 c) W
            -∗ wp frame (wpE (defs₀ (F := F)) 𝒱₀ (c : Thread nD τ) none) Set.univ (kk ⟨c, v2, v5, v11, v17, v19, v26, SemArray.scalar (sig.barrier 0 rfl), v30⟩) Q)
          -∗ wp frame (wpE (defs₀ (F := F)) 𝒱₀ (c : Thread nD τ) none) Set.univ
            (k0_part43 xM ha0 wM ha1 outM ha2 ownM ha3 wbfM ha4 cwM ha5 ccwM ha6 parM ha7
              cc0_scratch5 cc0_scratch6 cc0_scratch7 cc0_scratch8 cc0_scratch9 cc0_scratch10 >>= kk) Q) := by
  rw [k0_part43_eq_skeleton]; unfold k0_part43_skel
  simp only [Prog.lift, Prog.bind_op, Prog.bind_ret, Prog.bind_assoc, Prog.pure_eq_ret, wp_deviceId]
  iintro H Hk
  iapply (step_signal m K c 1 _ (dev1_eq c) (O₀ c) (Ob1 c) rfl W) $$ H
  iintro HO
  iapply Hk $$ %_ %_ %_ %_ %_ %_ %_ HO

set_option maxRecDepth 8000 in
set_option maxHeartbeats 800000 in
theorem sound_body (c : Dev nD) (Kt : PUnit → sProp 𝕄) :
    iprop(bodyPre m ρ c ∗ (bodyPost m ρ c -∗ Kt ⟨⟩))
      ⊢ wp frame (wpE (defs₀ (F := F)) 𝒱₀ (c : Thread nD τ) none) Set.univ
          (cc0_body xM (Memref.isWhole_whole _) wM (Memref.isWhole_whole _) outM (Memref.isWhole_whole _) ownM (Memref.isWhole_whole _)
            wbfM (Memref.isWhole_whole _) cwM (Memref.isWhole_whole _) ccwM (Memref.isWhole_whole _) parM (Memref.isWhole_whole _)
            cc0_scratch5 cc0_scratch6 cc0_scratch7 cc0_scratch8 cc0_scratch9 cc0_scratch10) Kt := by
  simp only [cc0_body_eq_skeleton]; unfold cc0_body_skel
  unfold bodyPre Φ₀ start ghost credits scratch
  iintro ⟨⟨⟨⟨⟨%K, ⟨#HR, ⟨Ht1, Ht0, Ht2⟩, Hatb, Hat, Htok⟩⟩, Hcb, Hcr⟩, ⟨Hraw, Hwb⟩⟩,
    Ho, ⟨%d0, %g0, %hg0, Hx⟩, ⟨%d1, %g1, %hg1, Hw⟩, ⟨%d2, %g2, %hg2, Hout⟩⟩, Hk⟩
  have hx : g0 = xs m c := by rw [hg0]; unfold Pipeline.Dat.before; rw [if_pos (fetch_0 t₀)]; rfl
  have hw : g1 = ws m c := by rw [hg1]; unfold Pipeline.Dat.before; rw [if_pos (fetch_1 t₀)]; rfl
  subst hx hw
  unfold Pipeline.Dat.owesAt Pipeline.owesWithin
  icases Ho with ⟨%W, %hW, HO⟩
  rw [show (dats m ρ 0 c).owed t₀.castSucc = O₀ c from rfl]
  ihave Hraw := (Entails.of_eq (slots_eq fun s => (raw c s : sProp 𝕄))) $$ Hraw
  icases Hraw with ⟨⟨Hown0, Hown1⟩, Hland⟩
  ihave Hat := (Entails.of_eq (by_use (even c) _)) $$ Hat
  icases Hat with ⟨HatD, HatR, HatS⟩
  ihave Hland := (hand_over c) $$ Hland
  icases Hland with ⟨⟨Hp1, Hp0, Hp2⟩, Hsp⟩
  ihave Hx := (show ((c : Thread nD τ).loc cc0_stg0_0 ↦{fullShare} xs m c) ⊢ (xPts m c : sProp 𝕄) from BIBase.Entails.rfl) $$ Hx
  ihave Hw := (show ((c : Thread nD τ).loc cc0_stg1_0 ↦{fullShare} ws m c) ⊢ (wPts m c : sProp 𝕄) from BIBase.Entails.rfl) $$ Hw
  iapply (enter m K c W) $$ [HO Ht1 Hp1]
  · isplitr; · iexact HR
    isplitl [HO]; · iexact HO
    isplitl [Ht1] <;> iassumption
  iintro %v2 %v5 %v11 %v17 %v19 %v26 %v30 HO
  simp only [Prog.lift, Prog.bind_op, Prog.bind_ret, Prog.bind_assoc, Prog.pure_eq_ret]
  iapply (step_signal m K c 0 _ (dev2_eq c) (Ob1 c) (Ob2 c) rfl W) $$ [HO Ht0 Hp0]
  · isplitr; · iexact HR
    isplitl [HO]; · iexact HO
    isplitl [Ht0] <;> iassumption
  iintro HO
  iapply (step_signal m K c 2 _ (dev3_eq c) (Ob2 c) (Ow c (acts (even c))) rfl W) $$ [HO Ht2 Hp2]
  · isplitr; · iexact HR
    isplitl [HO]; · iexact HO
    isplitl [Ht2] <;> iassumption
  iintro HO
  iapply (wp_load_x m c 0 ![0, 0] _ rfl) $$ Hx
  iintro Hx
  iapply (wp_load_raw ownM _ _ c (own 0) rfl) $$ Hown0
  iintro %v0 Hown0
  iapply (wp_store_slot m ownM _ _ c (own 0) rfl (own_store m c 0)) $$ Hown0
  iintro Hown0
  iapply (step_barrier m K c W) $$ [HO Hcb Hatb]
  · isplitr; · iexact HR
    isplitl [HO]; · iexact HO
    isplitl [Hcb] <;> iassumption
  iintro ⟨HO, Hz, Hfar⟩
  imod (close_dead m c K) $$ [HatD] with HD
  · isplitr; · iexact HR
    iexact HatD
  ihave Hout := (outs_init m c g2) $$ Hout
  ihave H := (start_script m K c) $$ [HO Hfar Htok HatS HatR Hcr HD Hown0 Hwb Hout]
  · isplitr; · iexact HR
    isplitl [HO]; · iexact HO
    isplitl [Hfar]; · iexact Hfar
    isplitl [Htok]; · iexact Htok
    isplitl [HatS]; · iexact HatS
    isplitl [HatR]; · iexact HatR
    isplitl [Hcr]; · iexact Hcr
    isplitl [HD]; · iexact HD
    isplitl [Hown0]; · iexact Hown0
    isplitl [Hwb] <;> iassumption
  cases hb : even c with
  | true =>
    have h1 := (cond_even c).mpr hb
    have h2 : ¬ k0_cond2 c = 1#1 := fun h => by have := (cond_odd c).mp h; rw [hb] at this; exact absurd this (by decide)
    rw [dif_pos h1]
    simp only [dif_neg h2, Prog.bind_assoc, Prog.bind_op, Prog.bind_ret]
    iapply (even_branch m K c hb h1) $$ [H Hx Hown1 Hw]
    · isplitl [H]; · iexact H
      isplitl [Hx]; · iexact Hx
      isplitl [Hown1] <;> iassumption
    iintro ⟨H, Hx, Hw⟩
    iapply (run_back m K c hb 42 (ccw 5) rfl rfl (credit_slot (src true (ccw 5)))) $$ H
    iintro H
    rw [wp_ret]; imodintro
    iapply Hk
    iapply (body_end m ρ c K hb)
    isplitl [H]; · iexact H
    isplitl [Hsp]; · iexact Hsp
    isplitl [Hz]; · iexact Hz
    isplitl [Hx] <;> iassumption
  | false =>
    have h1 : ¬ k0_cond1 c = 1#1 := fun h => by have := (cond_even c).mp h; rw [hb] at this; exact absurd this (by decide)
    have h2 := (cond_odd c).mpr hb
    rw [dif_neg h1]
    simp only [dif_pos h2, Prog.bind_assoc, Prog.bind_op, Prog.bind_ret]
    iapply (odd_branch m K c hb h2) $$ [H Hx Hown1 Hw]
    · isplitl [H]; · iexact H
      isplitl [Hx]; · iexact Hx
      isplitl [Hown1] <;> iassumption
    iintro ⟨H, Hx, Hw⟩
    iapply (run_back m K c hb 42 (cw 5) rfl rfl (credit_slot (src false (cw 5)))) $$ H
    iintro H
    rw [wp_ret]; imodintro
    iapply Hk
    iapply (body_end m ρ c K hb)
    isplitl [H]; · iexact H
    isplitl [Hsp]; · iexact Hsp
    isplitl [Hz]; · iexact Hz
    isplitl [Hx] <;> iassumption

/-- Each device's body meets its obligation. -/
theorem body_obligation (c : Dev nD) : Pipeline.BodyObligation (dats (F := F) m ρ 0 c) (defs₀ (F := F)) 𝒱₀ () Set.univ :=
  obligation_of m ρ c (by
    iintro H
    iapply (sound_body m ρ c fun _ => bodyPost m ρ c)
    isplitl [H]; · iexact H
    iintro H; iexact H)

end Cert.Mesh

end
-- ==== Proof.Deal.lean ====
/-
The cells and the duty tokens minted at the launch, and every token dealt to the device that pays with it.
-/
module

public import proofs.«01_k».proof.Proof.Body

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

variable (ρ : Dev nD → PrngReg)

/-! ## Cells and tokens -/

/-- The kernel's own semaphores. -/
abbrev osem : Bool × Chan → SemLoc sig := fun x => .dma (semOf x)

theorem ownSemFacts : Pipeline.OwnSemFacts cfg0.spec osem :=
  ⟨by decide +kernel, fun x y h => semOf_inj (SemLoc.dma.inj h), by decide +kernel⟩

theorem csem_inj : Function.Injective csem := by
  intro x y h
  cases x with
  | none => cases y with
    | none => rfl
    | some y => cases h
  | some x => cases y with
    | none => cases h
    | some y => rw [semOf_inj (SemLoc.dma.inj h)]

theorem cell_inj : Function.Injective fun i : Cid => cell i.1 i.2 := by
  rintro ⟨c, x⟩ ⟨c', x'⟩ h
  have h1 : c = c' := congrArg (fun g : GSem nD τ sig => g.1.1) h
  have h2 : x = x' := csem_inj (congrArg Prod.snd h)
  rw [h1, h2]

theorem tok_inj : Function.Injective fun i : Cid × Fin 3 => ((cell i.1.1 i.1.2, 0, i.2) : GSem nD τ sig × ℕ × Fin 3) := by
  rintro ⟨i, d⟩ ⟨i', d'⟩ h
  have h1 : i = i' := cell_inj (congrArg Prod.fst h)
  have h2 : d = d' := congrArg (fun x : GSem nD τ sig × ℕ × Fin 3 => x.2.2) h
  rw [h1, h2]

/-- Every cell of the mesh, -/
def allCells : Finset (GSem nD τ sig) := Finset.univ.map ⟨_, cell_inj⟩
/-- and three tokens for each. -/
def allToks : Finset (GSem nD τ sig × ℕ × Fin 3) := Finset.univ.map ⟨_, tok_inj⟩

def u₀ : UU := (initOf (Pipeline.cells cfgs cellOf_inj) (Pipeline.launchToks cfgs cellOf_inj), initOf allCells allToks)

/-- The tokens of a device's own cells. -/
def toks (c : Dev nD) : sProp 𝕄 :=
  bigSep Finset.univ fun x : Option (Bool × Chan) => bigSep Finset.univ fun d : Fin 3 => dutyTok ER (cell c x) 0 d

/-- The tokens a device pays with. -/
def payToks (c : Dev nD) : sProp 𝕄 :=
  iprop((dutyTok ER (bar (nbr 1 c)) 0 (opp 1) ∗ dutyTok ER (bar (nbr 0 c)) 0 (opp 0) ∗ dutyTok ER (bar (nbr 2 c)) 0 (opp 2))
    ∗ bigSep (acts (even c)) fun k => iprop(dutyTok ER (dcell c (false, k)) 0 0 ∗ dutyTok ER (dcell (nbr (fam k) c) (true, k)) 0 0))

def G (c : Dev nD) : sProp 𝕄 :=
  iprop((bigSep Finset.univ fun x => roundState ER (rd m) (cell c x) 0) ∗ (bigSep Finset.univ fun x => reached ER (cell c x) 0)
    ∗ (bigSep Finset.univ fun x => atPos ER (cell c x) 0 ∅ 0) ∗ toks c)

/-- The cells' records, but for the levels. -/
def records (K : Cid → ℕ) : sProp 𝕄 :=
  iprop((bigSep Finset.univ fun i : Cid => cellInv ER (rd m) (K i) (cell i.1 i.2))
    ∗ (bigSep Finset.univ fun i : Cid => reached ER (cell i.1 i.2) 0))

instance records_persistent (K : Cid → ℕ) : BI.Persistent (records m K) := by unfold records; infer_instance

def G' (c : Dev nD) : sProp 𝕄 :=
  iprop(∃ K, records m K ∗ (bigSep Finset.univ fun x => atPos ER (cell c x) 0 ∅ 0) ∗ payToks c)

theorem fund_all : BI.own (ER (initOf allCells allToks)) ⊢ iprop(|==> bigSep Finset.univ (G (F := F) m)) := by
  have hX (Φ : GSem nD τ sig → sProp 𝕄) : bigSep allCells Φ = bigSep Finset.univ fun c : Dev nD => bigSep Finset.univ fun x => Φ (cell c x) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (rd m) allCells allToks) $$ HX with ⟨Hst, Hr, Hat, Htok⟩
  imodintro
  ihave Hst := (Entails.of_eq (hX fun g => roundState ER (rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hr]; · iexact Hr
  isplitl [Hat] <;> iassumption

/-! ## Dealing -/

omit [FloatOps F] in
theorem opt_split {α : Type} [Fintype α] [DecidableEq α] (Φ : Option α → sProp 𝕄) :
    bigSep Finset.univ Φ = iprop((bigSep Finset.univ fun a => Φ (some a)) ∗ Φ none) := by
  rw [bigSep_univ_equiv (Equiv.optionEquivSumPUnit α).symm Φ, sum_split, Finset.univ_unique (α := PUnit), bigSep_singleton]
  rfl

omit [FloatOps F] in
theorem swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun x : α × β => Φ x.1 x.2), bigSep_univ_equiv (Equiv.prodComm β α), bigSep_univ_prod]
  rfl

omit [FloatOps F] in
/-- Something of every device's channels, dealt to the device at each channel's other end. -/
theorem to_nbr (Φ : Dev nD → Chan → sProp 𝕄) :
    (bigSep Finset.univ fun c => bigSep Finset.univ fun k => Φ c k) = bigSep Finset.univ fun c => bigSep Finset.univ fun k => Φ (nbr (fam k) c) k := by
  rw [swap, swap fun c k => Φ (nbr (fam k) c) k]
  exact bigSep_congr fun k _ => bigSep_univ_equiv (nbrEquiv (fam k)) fun c => Φ c k

omit [FloatOps F] in
/-- The tokens of a device's cells, those of them that matter. -/
theorem toks_of (c : Dev nD) : (toks c : sProp 𝕄)
    ⊢ iprop(dutyTok ER (bar c) 0 0 ∗ dutyTok ER (bar c) 0 1 ∗ dutyTok ER (bar c) 0 2
      ∗ (bigSep Finset.univ fun k : Chan => dutyTok ER (dcell c (false, k)) 0 0) ∗ bigSep Finset.univ fun k : Chan => dutyTok ER (dcell c (true, k)) 0 0) := by
  have hb : (bigSep Finset.univ fun d : Fin 3 => (dutyTok ER (bar c) 0 d : sProp 𝕄)) = iprop(dutyTok ER (bar c) 0 0 ∗ dutyTok ER (bar c) 0 1 ∗ dutyTok ER (bar c) 0 2) :=
    bigSep_univ_eq_bigSepL [(0 : Fin 3), 1, 2] (by decide) (by decide) _
  have hd : (bigSep Finset.univ fun x : Bool × Chan => bigSep Finset.univ fun d : Fin 3 => (dutyTok ER (dcell c x) 0 d : sProp 𝕄))
      ⊢ bigSep Finset.univ fun x : Bool × Chan => dutyTok ER (dcell c x) 0 0 :=
    each_mono fun x _ => bigSep_elim (Finset.mem_univ (0 : Fin 3))
  have hs : (bigSep Finset.univ fun x : Bool × Chan => (dutyTok ER (dcell c x) 0 0 : sProp 𝕄))
      = iprop((bigSep Finset.univ fun k : Chan => dutyTok ER (dcell c (false, k)) 0 0) ∗ bigSep Finset.univ fun k : Chan => dutyTok ER (dcell c (true, k)) 0 0) := by
    rw [bigSep_univ_prod]
    exact bigSep_univ_eq_bigSepL [false, true] (by decide) (by decide) _
  unfold toks
  iintro H
  ihave H := (Entails.of_eq (opt_split _)) $$ H
  icases H with ⟨Hd, Hb⟩
  ihave Hb := (show bigSep Finset.univ (fun d : Fin 3 => (dutyTok ER (cell c none) 0 d : sProp 𝕄)) ⊢ _ from Entails.of_eq hb) $$ Hb
  ihave Hd := (show bigSep Finset.univ (fun x : Bool × Chan => bigSep Finset.univ fun d : Fin 3 => (dutyTok ER (cell c (some x)) 0 d : sProp 𝕄)) ⊢ _ from hd) $$ Hd
  ihave Hd := (Entails.of_eq hs) $$ Hd
  icases Hb with ⟨H0, H1, H2⟩
  icases Hd with ⟨Hf, Ht⟩
  isplitl [H0]; · iexact H0
  isplitl [H1]; · iexact H1
  isplitl [H2]; · iexact H2
  isplitl [Hf] <;> iassumption

omit [FloatOps F] in
theorem pay_of (c : Dev nD) : (iprop(dutyTok ER (bar (nbr 1 c)) 0 0 ∗ dutyTok ER (bar (nbr 0 c)) 0 1 ∗ dutyTok ER (bar (nbr 2 c)) 0 2
      ∗ (bigSep Finset.univ fun k : Chan => dutyTok ER (dcell c (false, k)) 0 0)
      ∗ bigSep Finset.univ fun k : Chan => dutyTok ER (dcell (nbr (fam k) c) (true, k)) 0 0) : sProp 𝕄) ⊢ payToks c := by
  unfold payToks
  iintro ⟨H0, H1, H2, Hf, Ht⟩
  isplitl [H0 H1 H2]
  · isplitl [H0]; · iexact H0
    isplitl [H1]; · iexact H1
    iexact H2
  iapply (show (bigSep Finset.univ fun k : Chan => iprop(dutyTok ER (dcell c (false, k)) 0 0 ∗ dutyTok ER (dcell (nbr (fam k) c) (true, k)) 0 0) : sProp 𝕄)
    ⊢ bigSep (acts (even c)) fun k => iprop(dutyTok ER (dcell c (false, k)) 0 0 ∗ dutyTok ER (dcell (nbr (fam k) c) (true, k)) 0 0)
      from bigSep_subset (Finset.subset_univ _))
  iapply (Entails.of_eq (bigSep_sep' Finset.univ (fun k : Chan => (dutyTok ER (dcell c (false, k)) 0 0 : sProp 𝕄)) fun k => dutyTok ER (dcell (nbr (fam k) c) (true, k)) 0 0).symm)
  isplitl [Hf] <;> iassumption

omit [FloatOps F] in
/-- Every token dealt to the device that pays with it. -/
theorem deal : (bigSep Finset.univ fun c : Dev nD => (toks c : sProp 𝕄)) ⊢ bigSep Finset.univ fun c : Dev nD => payToks c := by
  refine BIBase.Entails.trans (each_mono fun c _ => toks_of c) (BIBase.Entails.trans (Entails.of_eq ?_) (each_mono fun c _ => pay_of c))
  simp only [bigSep_sep']
  rw [bigSep_univ_equiv (nbrEquiv 1) (fun c : Dev nD => (dutyTok ER (bar c) 0 0 : sProp 𝕄)),
    bigSep_univ_equiv (nbrEquiv 0) (fun c : Dev nD => (dutyTok ER (bar c) 0 1 : sProp 𝕄)),
    bigSep_univ_equiv (nbrEquiv 2) (fun c : Dev nD => (dutyTok ER (bar c) 0 2 : sProp 𝕄)),
    to_nbr fun c k => (dutyTok ER (dcell c (true, k)) 0 0 : sProp 𝕄)]
  rfl

omit [FloatOps F] in
theorem unscopedSems0_eq (c : Dev nD) : (unscopedSems0 c : sProp 𝕄) = semVal (bar c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun x => semVal (cell c x) 0 : sProp 𝕄) := by
  rw [unscopedSems0_eq, opt_split]; rfl

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ iprop(|={Set.univ}=> ((bigSep Finset.univ fun x => iprop(∃ κ : ℕ, cellInv ER (rd m) κ (cell c x)))
          ∗ (bigSep Finset.univ fun x => reached ER (cell c x) 0) ∗ (bigSep Finset.univ fun x => atPos ER (cell c x) 0 ∅ 0) ∗ toks c)) := by
  unfold G
  iintro ⟨Hos, Hus, Hst, Hr, Hat, Htok⟩
  ihave Hv := (Entails.of_eq (sems0_eq (F := F) c)) $$ [Hos Hus]
  · isplitl [Hos] <;> iassumption
  imod (show iprop((bigSep Finset.univ fun x => semVal (cell c x) 0) ∗ bigSep Finset.univ fun x => roundState ER (rd m) (cell c x) 0)
      ⊢ (|={Set.univ}=> bigSep Finset.univ fun x => iprop(∃ κ : ℕ, cellInv ER (rd m) κ (cell c x)) : sProp 𝕄) from by
        rw [← bigSep_sep']
        exact (bigSep_mono fun x _ => (Rounds.body_intro ER (rd m) (cell c x)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

theorem regroup :
    (bigSep Finset.univ fun c : Dev nD => iprop((bigSep Finset.univ fun x => iprop(∃ κ : ℕ, cellInv ER (rd m) κ (cell c x)))
          ∗ (bigSep Finset.univ fun x => reached ER (cell c x) 0) ∗ (bigSep Finset.univ fun x => atPos ER (cell c x) 0 ∅ 0) ∗ toks c) : sProp 𝕄)
      ⊢ bigSep Finset.univ (G' m) := by
  rw [bigSep_sep', bigSep_sep', bigSep_sep', ← bigSep_univ_prod (fun i : Cid => iprop(∃ κ : ℕ, cellInv ER (rd m) κ (cell i.1 i.2))),
    ← bigSep_univ_prod (fun i : Cid => (reached ER (cell i.1 i.2) 0 : sProp 𝕄))]
  iintro ⟨HI, #HR, Hat, Htok⟩
  ihave HK := (BI.bigSep_exists_pi Finset.univ (fun (i : Cid) (κ : ℕ) => (cellInv ER (rd m) κ (cell i.1 i.2) : sProp 𝕄))) $$ HI
  icases HK with ⟨%K, #HI⟩
  ihave Hpay := (deal (F := F)) $$ Htok
  iapply (bigSep_with_persistent (R := records m K)
    (Φ := fun c : Dev nD => iprop((bigSep Finset.univ fun x => atPos ER (cell c x) 0 ∅ 0) ∗ payToks c)) (Ψ := G' m) fun c _ => by
      unfold G'
      iintro ⟨#Hrec, Hc⟩
      iexists K
      isplitr; · iexact Hrec
      iexact Hc)
  isplitr
  · unfold records; isplitr; · iexact HI
    iexact HR
  · iapply (Entails.of_eq (bigSep_sep' _ _ _).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ iprop(|={Set.univ}=> bigSep Finset.univ (G' m)) :=
  ((bigSep_mono fun c _ => core_alloc m c).trans (bigSep_fupd _ _)).trans (BI.fupd_mono (regroup m))

end Cert.Mesh

end
-- ==== Proof.Run.lean ====
/-
The run of the whole program: the launch's credit, the scratch buffers cut into their slots and put together again, and every
execution of the program.
-/
module

public import proofs.«01_k».proof.Proof.Deal
public import Idealize.ShloMosaic.Lib.Pipeline.CollectiveSegs

@[expose] public section

noncomputable section

namespace Cert.Mesh

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ)

variable (ρ : Dev nD → PrngReg)

/-! ## The launch's credit -/

omit [FloatOps F] in
/-- A channel's dues make up the credit of its arrivals, at the devices that have any. -/
theorem cred_chan (k : Chan) (c : Dev nD) :
    (Pipeline.launchCred (fun d => if active (even d) k = true then tallyAt (dcell (nbr (fam k) d) (true, k)) () N else 0) c : sProp 𝕄)
      ⊢ if active (!even c) k = true then cred (tallyAt (dcell c (true, k)) () N) else iprop(emp) := by
  by_cases h : active (!even c) k = true
  · rw [if_pos h]
    refine (Pipeline.launchCred_elim _ c (.dma (semOf (true, k)))).trans (Entails.of_eq (congrArg cred ?_))
    rw [Pipeline.tallyOn_launchCredit_owing]
    unfold tallyAt
    refine congrArg _ ?_
    rw [Finset.sum_apply, Finset.sum_eq_single (nbr (opp (fam k)) c)]
    · rw [even_nbr, if_pos h, nbr_opp']
      exact Pi.single_eq_same _ _
    · intro d _ hd
      split
      · unfold tallyOn
        refine Pi.single_eq_of_ne (fun h' => hd ?_) _
        have h3 : c = nbr (fam k) d := congrArg (fun g : GSem nD τ sig => g.1.1) h'
        rw [h3, nbr_opp]
      · rfl
    · intro hn; exact absurd (Finset.mem_univ _) hn
  · rw [if_neg h]
    iintro -; iempintro

theorem arrivals_eq : ∀ b, arrivals b = (Finset.univ.filter fun k : Chan => active (!b) k = true).map ⟨fun k => (true, k), fun _ _ h => (Prod.mk.inj h).2⟩ := by
  intro b; cases b <;> decide +kernel

omit [FloatOps F] in
theorem creds (c : Dev nD) : (Pipeline.launchCred O₀ c : sProp 𝕄) ⊢ credits c := by
  have hb : ∀ e : Fin 3, (Pipeline.launchCred (fun d => tallyAt (bar (nbr e d)) () 1) c : sProp 𝕄) ⊢ cred (tallyAt (bar c) () 1) := fun e =>
    Pipeline.launchCred_tallyAt (.reg barS) (nbr e) (nbr (opp e)) (nbr_opp' e) (nbr_opp e) () 1 c
  have ho : (Pipeline.launchCred (fun d => Ow d (acts (even d))) c : sProp 𝕄) ⊢ bigSep (arrivals (even c)) fun x => cred (tallyAt (dcell c x) () N) := by
    rw [show (fun d => Ow d (acts (even d))) = fun d => ∑ k : Chan, if active (even d) k = true then tallyAt (dcell (nbr (fam k) d) (true, k)) () N else 0 from
      funext fun d => Finset.sum_filter _ _]
    rw [Pipeline.launchCred_sum, arrivals_eq, bigSep_map, bigSep_filter]
    exact bigSep_mono fun k _ => cred_chan k c
  rw [show (O₀ : Dev nD → CellTallies nD τ sig Unit) = fun d => ((Ow d (acts (even d)) + tallyAt (bar (nbr 2 d)) () 1) + tallyAt (bar (nbr 0 d)) () 1) + tallyAt (bar (nbr 1 d)) () 1 from rfl]
  rw [Pipeline.launchCred_add, Pipeline.launchCred_add, Pipeline.launchCred_add]
  unfold credits
  iintro ⟨⟨⟨Ho, H2⟩, H0⟩, H1⟩
  ihave H2 := (hb 2) $$ H2
  ihave H0 := (hb 0) $$ H0
  ihave H1 := (hb 1) $$ H1
  isplitr [Ho]
  · rw [show (tallyAt (bar c) () 3 : CellTallies nD τ sig Unit) = (tallyAt (bar c) () 1 + tallyAt (bar c) () 1) + tallyAt (bar c) () 1 from by
      rw [tallyAt_add, tallyAt_add]]
    iapply (cred_add _ _).2
    isplitr [H1]
    · iapply (cred_add _ _).2
      isplitl [H2] <;> iassumption
    iexact H1
  · iapply ho; iexact Ho

/-! ## The scratch buffers -/

omit [FloatOps F] in
/-- A buffer cut into parts that cover it and do not meet, each at contents of its own. -/
theorem parts {T : Type} [Fintype T] [DecidableEq T] {ℓ : Loc nD τ sig} (f₀ : Buf (Elt F) ℓ) (K : T → Finset (Idx ℓ)) (hc : ∀ i, ∃ t, i ∈ K t)
    (hd : ∀ t t' i, i ∈ K t → i ∈ K t' → t = t') :
    (iprop(∃ f, ℓ ↦{fullShare} f) : sProp 𝕄) ⊣⊢ bigSep Finset.univ fun t => iprop(∃ f, ℓ ↦[K t]{fullShare} f) := by
  have hu : (Finset.univ : Finset T).biUnion K = Finset.univ := Finset.eq_univ_iff_forall.mpr fun i => by
    obtain ⟨t, ht⟩ := hc i; exact Finset.mem_biUnion.mpr ⟨t, Finset.mem_univ _, ht⟩
  have hj : ∀ t ∈ (Finset.univ : Finset T), ∀ t' ∈ (Finset.univ : Finset T), t ≠ t' → Disjoint (K t) (K t') := fun t _ t' _ hn =>
    Finset.disjoint_left.mpr fun i h h' => hn (hd t t' i h h')
  constructor
  · iintro ⟨%f, H⟩
    iapply (each_mono (Φ := fun t => (ℓ ↦[K t]{fullShare} f : sProp 𝕄)) fun t _ => by iintro H; iexists f; iexact H)
    iapply (show (ℓ ↦{fullShare} f : sProp 𝕄) ⊢ bigSep Finset.univ fun t => ℓ ↦[K t]{fullShare} f from
      Entails.of_eq (by rw [← pointsTo_biUnion Finset.univ K hj, hu]))
    iexact H
  · have : Nonempty (Buf (Elt F) ℓ) := ⟨f₀⟩
    iintro H
    ihave H := (BI.bigSep_exists_pi Finset.univ fun (t : T) (f : Buf (Elt F) ℓ) => (ℓ ↦[K t]{fullShare} f : sProp 𝕄)) $$ H
    icases H with ⟨%fs, H⟩
    ihave H := (pointsTo_biUnion_join Finset.univ K fs f₀ hj) $$ H
    icases H with ⟨%g, -, H⟩
    rw [hu]
    iexists g; iexact H

/-- The elements of layer `t` of a stack of `n`: those with `t` as leading index. -/
theorem mem_layer (n t : ℕ) (inb) (i : (⟨3, ![n, 256, 4096]⟩ : Shape).Idx) :
    i ∈ (Rect.unit (s := ⟨3, ![n, 256, 4096]⟩) ![t, 0, 0] S1x256x4096.size inb).set ↔ (i 0).val = t := by
  rw [Rect.mem_set_unit]
  constructor
  · intro h
    have h0 := h 0
    have : t ≤ (i 0).val ∧ (i 0).val < t + 1 := h0
    omega
  · intro h a
    have h1 : (i 1).val < 256 := (i 1).isLt
    have h2 : (i 2).val < 4096 := (i 2).isLt
    revert a
    rw [Fin.forall_fin_succ, Fin.forall_fin_two]
    refine ⟨?_, ?_, ?_⟩
    · show t ≤ (i 0).val ∧ (i 0).val < t + 1
      omega
    · show 0 ≤ (i 1).val ∧ (i 1).val < 0 + 256
      omega
    · show 0 ≤ (i 2).val ∧ (i 2).val < 0 + 4096
      omega

theorem mem_own (h : Fin 2) (i : Idx (ownM.view.loc ((0 : Dev nD) : Thread nD τ))) : i ∈ (slotM (own h)).view.set ↔ (i 0).val = h.val := by
  rw [show (slotM (own h)).view.set = _ from (View.set_reshape _ _).trans (View.set_slice_whole _ _)]
  exact mem_layer 2 h.val (inb2 h) i
theorem mem_cw (t : Fin 6) (i : Idx (cwM.view.loc ((0 : Dev nD) : Thread nD τ))) : i ∈ (slotM (land (cw t))).view.set ↔ (i 0).val = t.val := by
  rw [show (slotM (land (cw t))).view.set = _ from (View.set_reshape _ _).trans (View.set_slice_whole _ _)]
  exact mem_layer 6 t.val (inb6 t) i
theorem mem_ccw (t : Fin 6) (i : Idx (ccwM.view.loc ((0 : Dev nD) : Thread nD τ))) : i ∈ (slotM (land (ccw t))).view.set ↔ (i 0).val = t.val := by
  rw [show (slotM (land (ccw t))).view.set = _ from (View.set_reshape _ _).trans (View.set_slice_whole _ _)]
  exact mem_layer 6 t.val (inb6 t) i
theorem mem_par (t : Fin 4) (i : Idx (parM.view.loc ((0 : Dev nD) : Thread nD τ))) : i ∈ (slotM (land (par t))).view.set ↔ (i 0).val = t.val := by
  rw [show (slotM (land (par t))).view.set = _ from (View.set_reshape _ _).trans (View.set_slice_whole _ _)]
  exact mem_layer 4 t.val (inb4 t) i

include m in
/-- A buffer of layers cut into them. -/
theorem layers (c : Dev nD) {n : ℕ} (b : Ref sig .tc) (K : Fin n → Finset (Idx ((c : Thread nD τ).loc b)))
    (lead : Idx ((c : Thread nD τ).loc b) → Fin n) (h : ∀ t i, i ∈ K t ↔ (lead i).val = t.val) :
    (iprop(∃ f, ((c : Thread nD τ).loc b) ↦{fullShare} f) : sProp 𝕄) ⊣⊢ bigSep Finset.univ fun t => iprop(∃ f, ((c : Thread nD τ).loc b) ↦[K t]{fullShare} f) :=
  parts (m _) K (fun i => ⟨lead i, (h _ _).mpr rfl⟩) (fun t t' i ht ht' => Fin.ext (((h _ _).mp ht).symm.trans ((h _ _).mp ht')))

include m in
theorem cut_own (c : Dev nD) : (iprop(∃ f : Buf (Elt F) ((c : Thread nD τ).loc cc0_scratch0), ((c : Thread nD τ).loc cc0_scratch0) ↦{fullShare} f) : sProp 𝕄)
    ⊣⊢ bigSep Finset.univ fun h : Fin 2 => raw c (own h) := layers m c cc0_scratch0 (fun h => (slotM (own h)).view.set) (fun i => i 0) mem_own
include m in
theorem cut_cw (c : Dev nD) : (iprop(∃ f : Buf (Elt F) ((c : Thread nD τ).loc cc0_scratch2), ((c : Thread nD τ).loc cc0_scratch2) ↦{fullShare} f) : sProp 𝕄)
    ⊣⊢ bigSep Finset.univ fun t : Fin 6 => raw c (land (cw t)) := layers m c cc0_scratch2 (fun t => (slotM (land (cw t))).view.set) (fun i => i 0) mem_cw
include m in
theorem cut_ccw (c : Dev nD) : (iprop(∃ f : Buf (Elt F) ((c : Thread nD τ).loc cc0_scratch3), ((c : Thread nD τ).loc cc0_scratch3) ↦{fullShare} f) : sProp 𝕄)
    ⊣⊢ bigSep Finset.univ fun t : Fin 6 => raw c (land (ccw t)) := layers m c cc0_scratch3 (fun t => (slotM (land (ccw t))).view.set) (fun i => i 0) mem_ccw
include m in
theorem cut_par (c : Dev nD) : (iprop(∃ f : Buf (Elt F) ((c : Thread nD τ).loc cc0_scratch4), ((c : Thread nD τ).loc cc0_scratch4) ↦{fullShare} f) : sProp 𝕄)
    ⊣⊢ bigSep Finset.univ fun t : Fin 4 => raw c (land (par t)) := layers m c cc0_scratch4 (fun t => (slotM (land (par t))).view.set) (fun i => i 0) mem_par

omit [FloatOps F] in
theorem slots_apart (c : Dev nD) : (bigSep Finset.univ fun s : Slot => raw c s : sProp 𝕄)
    = iprop((bigSep Finset.univ fun h : Fin 2 => raw c (own h)) ∗ (bigSep Finset.univ fun t : Fin 6 => raw c (land (cw t)))
      ∗ (bigSep Finset.univ fun t : Fin 6 => raw c (land (ccw t))) ∗ bigSep Finset.univ fun t : Fin 4 => raw c (land (par t))) := by
  rw [sum_split, sum_split, sum_split]

include m in
theorem scratch_in (c : Dev nD) : (Pipeline.scopedRest cfg0.spec c : sProp 𝕄) ⊢ scratch c := by
  rw [scopedRest0_eq]
  unfold scratch
  rw [slots_apart]
  iintro ⟨H0, H1, H2, H3, H4⟩
  isplitr [H1]
  · isplitl [H0]; · iapply (cut_own m c).1; iexact H0
    isplitl [H2]; · iapply (cut_cw m c).1; iexact H2
    isplitl [H3]; · iapply (cut_ccw m c).1; iexact H3
    iapply (cut_par m c).1; iexact H4
  · unfold wbRaw; iexact H1

include m in
theorem scratch_out (c : Dev nD) : scratch c ⊢ (Pipeline.scopedRest cfg0.spec c : sProp 𝕄) := by
  rw [scopedRest0_eq]
  unfold scratch
  rw [slots_apart]
  iintro ⟨⟨H0, H2, H3, H4⟩, H1⟩
  isplitl [H0]; · iapply (cut_own m c).2; iexact H0
  isplitl [H1]; · unfold wbRaw; iexact H1
  isplitl [H2]; · iapply (cut_cw m c).2; iexact H2
  isplitl [H3]; · iapply (cut_ccw m c).2; iexact H3
  iapply (cut_par m c).2; iexact H4

/-! ## The run -/

theorem share_eq (c : Dev nD) (w : Fin cfg0.W) : (dats m ρ 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ iprop(|={Set.univ}=> (start m c ∗ emp)) := by
  iintro ⟨-, #Hlev, Hcr, -, HG⟩
  ihave Hc := (creds (F := F) c) $$ Hcr
  unfold G' records payToks
  icases HG with ⟨%K, ⟨#HI, #HR⟩, Hat, Hb, Hp⟩
  ihave Hat := (Entails.of_eq (opt_split _)) $$ Hat
  icases Hat with ⟨Hat, Hab⟩
  imodintro
  unfold start ghost recs
  isplitl
  · isplitr [Hc]
    · iexists K
      isplitr
      · isplitr; · iexact HI
        isplitr; · iexact HR
        iexact Hlev
      isplitl [Hb]; · iexact Hb
      isplitl [Hab]; · iexact Hab
      isplitl [Hat]; · iexact Hat
      iexact Hp
    · iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_in m c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, unscopedSems0_eq]
  unfold Φ₁
  iintro ⟨Hb, Hd, Hs⟩
  isplitl [Hb]; · iexact Hb
  isplitl [Hd]; · iapply (show (bigSep Finset.univ (rest c) : sProp 𝕄) ⊢ Pipeline.ownSems0 osem c from BIBase.Entails.rfl); iexact Hd
  iapply (scratch_out m c); iexact Hs

theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert w s; decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, every weakly fair execution of the program on the eight devices terminates, with each
    device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays the program only reads hold what they held. -/
theorem finalA_x (c : Dev nD) : finalA m ρ c (0 : Fin 3) = m ((c : Thread nD τ).loc main_arg0) := (dats (F := F) m ρ 0 c).arrAt_in (0 : Fin 3) rfl _
theorem finalA_w (c : Dev nD) : finalA m ρ c (1 : Fin 3) = m ((c : Thread nD τ).loc main_arg1) := (dats (F := F) m ρ 0 c).arrAt_in (1 : Fin 3) rfl _

end Cert.Mesh

end
-- ==== Proof.Value.lean ====
/-
What the result holds after the run, and why that is the device's columns of the whole product.

Row `i` of the result is made from one row of `x`: row `i` of the half-block that covers it. At exact arithmetic both it and the
reference's entry are the same sum of products over the contracted axis, term by term.
-/
module

public import proofs.«01_k».proof.Proof.Run
public import proofs.«01_k».proof.Proof.Gen.ReferenceIdeal.Run
public import Idealize.ShloMosaic.Lib.Layout
public import Idealize.ShloMosaic.Lib.MatmulPlain

@[expose] public section

noncomputable section

namespace Cert.Mesh

open Cert.KernelIdeal Cert.KernelIdeal.Gen
open Idealize.ShloMosaic Idealize.ShloMosaic.TcCoe Idealize.ShloMosaic.ValueIdx
open Idealize.SL.Sem

section

variable {F : FTy → Type} [FloatOps F]
variable (m : (ℓ : Loc nD τ sig) → Buf (Elt F) ℓ) (ρ : Dev nD → PrngReg)

/-! ## The arrays -/

/-- Each window is one block, the whole of its array. -/
theorem read_x (f : (main_arg0 : Ref sig .tc).ty.Contents (Elt F)) : (win0_0.blk (0 : Fin 1)).view.read (Elt F) f = f :=
  Memref.read_access_unit_zero (Elt F) main_arg0 (show (fun a => (win0_0.index (0 : Fin 1)) a * main_arg0.ty.shape.size a) = fun _ => 0 from
    funext fun a => by fin_cases a <;> decide) (fun a => by fin_cases a <;> decide) f
theorem read_warr (f : (main_arg1 : Ref sig .tc).ty.Contents (Elt F)) : (win0_1.blk (0 : Fin 1)).view.read (Elt F) f = f :=
  Memref.read_access_unit_zero (Elt F) main_arg1 (show (fun a => (win0_1.index (0 : Fin 1)) a * main_arg1.ty.shape.size a) = fun _ => 0 from
    funext fun a => by fin_cases a <;> decide) (fun a => by fin_cases a <;> decide) f
theorem read_out (f : (main_v1 : Ref sig .tc).ty.Contents (Elt F)) : (win0_2.blk t₀).view.read (Elt F) f = f :=
  Memref.read_access_unit_zero (Elt F) main_v1 (show (fun a => (win0_2.index t₀) a * main_v1.ty.shape.size a) = fun _ => 0 from
    funext fun a => by fin_cases a <;> decide) (fun a => by fin_cases a <;> decide) f

theorem xs_eq (c : Dev nD) : xs m c = m ((c : Thread nD τ).loc main_arg0) := read_x _
theorem ws_eq (c : Dev nD) : ws m c = m ((c : Thread nD τ).loc main_arg1) := read_warr _

theorem flush_out (t : Fin cfg0.N) : (cfg0.win (2 : Fin 3)).flush t = true := by rw [fin_N0 t]; rfl

/-- The result array after the run. -/
theorem finalA_out (c : Dev nD) : finalA m ρ c (2 : Fin 3) = outAt m c := by
  have hw : (win0_2.blk t₀).view.read (Elt F) (finalA m ρ c (2 : Fin 3)) = outAt m c := by
    unfold finalA
    rw [show cfg0.N = t₀.val + 1 from rfl, (dats m ρ 0 c).arrAt_succ (2 : Fin 3) t₀, flush_out, if_pos rfl]
    exact (View.read_write_univ _ _).trans (funext fun _ => rfl)
  exact (read_out _).symm.trans hw

/-- An entry of a half-block is one of the block. -/
theorem xh_at (c : Dev nD) (h : Fin 2) (r : Fin 256) (k : Fin 4096) :
    xh m c h (ix2 r k) = xs m c (ix2 (⟨256 * h.val + r.val, by omega⟩ : Fin 512) k) := by
  unfold xh
  refine congrArg (xs m c) (funext (Fin.forall_fin_two.mpr ⟨Fin.ext ?_, Fin.ext ?_⟩))
  · show 256 * h.val + 1 * r.val = _
    rw [Nat.one_mul]
  · show 0 + 1 * k.val = k.val
    rw [Nat.one_mul, Nat.zero_add]

end

/-! ## At exact arithmetic -/

section

variable (m : (ℓ : Loc nD τ sig) → Buf (Elt Ideal) ℓ)

/-- A half-block's product at an entry. -/
theorem mm_at (x : Vec Ideal S256x4096 .bf16) (w : Vec Ideal S4096x256 .bf16) (r : Fin 256) (j : Fin 256) :
    mm x w (ix2 r j) = ∑ k : Fin 4096, x (ix2 r k) * w (ix2 k j) := by
  unfold mm
  refine (Ideal.matmul_plain_apply none x w _ r j).trans ?_
  show Ideal.ofBits .f32 0x00000000#32 + _ = _
  rw [Ideal.ofBits_zero_f32, zero_add]

/-- The entries of a device's blocks. -/
abbrev xE (c : Dev nD) (r : Fin 512) (k : Fin 4096) : EReal := xs m c (ix2 r k)
abbrev wE (c : Dev nD) (k : Fin 4096) (j : Fin 256) : EReal := ws m c (ix2 k j)

/-- An entry of the result. -/
theorem outAt_at (c : Dev nD) (i : S4096x256.Idx) :
    outAt m c i = ∑ k : Fin 4096, xE m (rowDev i) ⟨(i 0).val % 512, by omega⟩ k * wE m c k (i 1) := by
  have hi : rowIn i = ix2 (⟨(i 0).val % 256, by omega⟩ : Fin 256) (i 1) := funext (Fin.forall_fin_two.mpr ⟨rfl, rfl⟩)
  refine (congrArg (mm (xh m (rowDev i) (rowHalf i)) (ws m c)) hi).trans ((mm_at _ _ _ _).trans ?_)
  refine Finset.sum_congr rfl fun k _ => congrArg (· * wE m c k (i 1)) ((xh_at m _ _ _ _).trans ?_)
  refine congrArg (fun r : Fin 512 => xE m (rowDev i) r k) (Fin.ext ?_)
  show 256 * ((i 0).val % 512 / 256) + (i 0).val % 256 = (i 0).val % 512
  omega

/-- The reference's product at an entry. -/
theorem ref_at (X : FVec Ideal Cert.ReferenceIdeal.S4096x4096 .bf16) (W : FVec Ideal Cert.ReferenceIdeal.S4096x2048 .bf16) (r : Fin 4096) (j : Fin 2048) :
    (Host.dotGeneral Cert.ReferenceIdeal.dot_S4096x4096_S4096x2048_S4096x2048_1_0_0_1_n_n none X W : FVec Ideal Cert.ReferenceIdeal.S4096x2048 .f32) (ix2 r j) = ∑ k : Fin 4096, X (ix2 r k) * W (ix2 k j) := by
  have hk := contrEquiv1_symm_val (DotDims.plain 4096 4096 2048) 4096 rfl rfl
  refine (Ideal.dotGeneral_apply (DotDims.plain 4096 4096 2048) none _ X W (ix2 r j)).trans ?_
  rw [← Equiv.sum_comp (contrEquiv1 (DotDims.plain 4096 4096 2048) 4096 rfl rfl).symm]
  refine Finset.sum_congr rfl fun k _ => congrArg₂ (· * ·) (congrArg X ?_) (congrArg W ?_)
  · exact funext (Fin.forall_fin_two.mpr ⟨rfl, Fin.ext (hk k)⟩)
  · exact funext (Fin.forall_fin_two.mpr ⟨Fin.ext (hk k), rfl⟩)

/-- The whole product of the whole arrays, through the two casts, which change no real number. -/
abbrev whole (X : FVec Ideal Cert.ReferenceIdeal.S4096x4096 .bf16) (W : FVec Ideal Cert.ReferenceIdeal.S4096x2048 .bf16) :
    FVec Ideal Cert.ReferenceIdeal.S4096x2048 .f32 :=
  extf .f32 (truncf .bf16 (Host.dotGeneral Cert.ReferenceIdeal.dot_S4096x4096_S4096x2048_S4096x2048_1_0_0_1_n_n none X W :
    FVec Ideal Cert.ReferenceIdeal.S4096x2048 .f32) Cert.ReferenceIdeal.Gen.bitsLt_bf16_f32) Cert.ReferenceIdeal.Gen.bitsLt_bf16_f32

/-- From blocks of the whole arrays, the result is the device's columns of the whole product. -/
theorem out_block (X : FVec Ideal Cert.ReferenceIdeal.S4096x4096 .bf16) (W : FVec Ideal Cert.ReferenceIdeal.S4096x2048 .bf16)
    (hx : ∀ d : Dev nD, m ((d : Thread nD τ).loc main_arg0) = Layout.block ⟨2, ![512, 4096]⟩ ⟨2, ![4096, 4096]⟩ 0 8 d X)
    (hw : ∀ d : Dev nD, m ((d : Thread nD τ).loc main_arg1) = Layout.block ⟨2, ![4096, 256]⟩ ⟨2, ![4096, 2048]⟩ 1 8 d W) (c : Dev nD) :
    outAt m c = Layout.block ⟨2, ![4096, 256]⟩ ⟨2, ![4096, 2048]⟩ 1 8 c (whole X W) := by
  funext i
  rw [outAt_at, Layout.block_apply]
  unfold xE wE
  rw [xs_eq, ws_eq, hx, hw]
  have h1 : (i 1).val < 256 := (i 1).isLt
  have hc : c.val < 8 := c.isLt
  have hj : (Layout.Tiles.idx (by decide : Layout.Tiles ⟨2, ![4096, 256]⟩ ⟨2, ![4096, 2048]⟩ 1 8) c i)
      = ix2 (i 0 : Fin 4096) (⟨c.val * 256 + (i 1).val, by omega⟩ : Fin 2048) :=
    funext (Fin.forall_fin_two.mpr ⟨Fin.ext (Layout.Tiles.idx_val ..), Fin.ext (Layout.Tiles.idx_val ..)⟩)
  refine Eq.trans ?_ ((congrArg (whole X W) hj).trans (ref_at _ _ _ _)).symm
  refine Finset.sum_congr rfl fun k _ => congrArg₂ (· * ·) ?_ ?_
  · rw [Layout.block_apply]
    refine congrArg X (funext (Fin.forall_fin_two.mpr ⟨Fin.ext ((Layout.Tiles.idx_val ..).trans ?_), Fin.ext (Layout.Tiles.idx_val ..)⟩))
    show (i 0).val / 512 * 512 + (i 0).val % 512 = (i 0).val
    omega
  · rw [Layout.block_apply]
    exact congrArg W (funext (Fin.forall_fin_two.mpr ⟨Fin.ext (Layout.Tiles.idx_val ..), Fin.ext (Layout.Tiles.idx_val ..)⟩))

end

end Cert.Mesh

end
-- ==== Proof.lean ====
/- The claim, assembled from the run of the kernel on the eight devices (Proof/Run.lean), the value of its result
   (Proof/Value.lean) and the generated run of the reference. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value

@[expose] public section

noncomputable section

namespace Cert.Proof

open Idealize.ShloMosaic Idealize.SL.Sem Cert.Mesh

/-- What the run ends with, read at the two arguments. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)}
    (h : QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  ⟨(h c (0 : Fin 3)).trans (finalA_x m ρ c), (h c (1 : Fin 3)).trans (finalA_w m ρ c)⟩

/-- The run at any float values, read at the arguments and the counters. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨args_kept m ρ h.1, h.2⟩) (run_main m ρ)

/-- The kernel and its idealization are one text: the body, -/
theorem body_same : Cert.Kernel.cc0_body (F := Bits) = Cert.KernelIdeal.cc0_body (F := Bits) := rfl
/-- what each label runs, -/
theorem table_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) =>
    show Cert.Kernel.cc0_body (F := Bits) _ _ _ _ _ _ _ _ _ _ _ _ _ _ _ _ _ _ _ _ _ _ = _
    rw [body_same]
/-- and with it everything the program calls. -/
theorem defs_same : Cert.Kernel.defs (F := Bits) = Cert.KernelIdeal.defs (F := Bits) := by
  unfold Cert.Kernel.defs Cert.KernelIdeal.defs
  exact congrArg (Pipeline.defs (Cert.KernelIdeal.pcfgs (F := Bits))) table_same

/-- So the run at words is the kernel's. -/
theorem frame_kernel : Cert.quiescent_Kernel := by
  intro m ρ _
  rw [defs_same]
  exact frame_any (F := Bits) m ρ

theorem frame_kernelIdeal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := by
  intro m ρ m' ρ' _ hargs
  refine ⟨whole (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨((h.1 c (2 : Fin 3)).trans (finalA_out m ρ c)).trans
      (out_block m _ _ (fun d => (hargs d).1) (fun d => (hargs d).2) c), args_kept m ρ h.1 c⟩) (run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_kernelIdeal, frame_reference, trivial, algebraic⟩

end Cert.Proof

end
